-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel)
    ∧ quiescent_KernelIdeal (hKernelIdeal := hKernelIdeal)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_sorted_ids.lean ====
abbrev S32768x64 : Shape := ⟨2, ![32768, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S32768 : Shape := ⟨1, ![32768]⟩
abbrev S32767 : Shape := ⟨1, ![32767]⟩
abbrev S_ : Shape := ⟨0, ![]⟩

class Facts : Prop where
  slices_S32768_S32767_1 : S32768.Slices ![1] S32767
  slices_S32768_S32767_0 : S32768.Slices ![0] S32767
  reducesTo_S32767_S_d0 : S32767.ReducesTo [0] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x64 .f32) (main_arg1 : FVec F S64x64 .f32) (main_arg2 : FVec F S64 .f32) (main_arg3 : FVec F S64x1 .f32) (main_arg4 : FVec F S1 .f32) (main_arg5 : IVec S32768 32) : IVec S_ 1 :=
  let main_v0 : IVec S32767 32 := (extractStridedSlice S32767 ![1] · slices_S32768_S32767_1) main_arg5
  let main_v1 : IVec S32767 32 := (extractStridedSlice S32767 ![0] · slices_S32768_S32767_0) main_arg5
  let main_v2 : IVec S32767 1 := cmpi .sge main_v0 main_v1
  let main_c : IVec S_ 1 := constantI S_ 1 1#1
  let main_v3 : IVec S_ 1 := (fun x v => Host.reduce IntOp.andi x v reducesTo_S32767_S_d0 h_S_) main_v2 main_c
  let main_c_0 : IVec S_ 32 := constantI S_ 32 0#32
  let main_v4 : IVec S32768 32 := broadcastInDim S32768 ![] bcast_S_S32768 main_c_0
  let main_v5 : IVec S32768 1 := cmpi .sge main_arg5 main_v4
  let main_c_1 : IVec S_ 1 := constantI S_ 1 1#1
  let main_v6 : IVec S_ 1 := (fun x v => Host.reduce IntOp.andi x v reducesTo_S32768_S_d0 h_S_) main_v5 main_c_1
  let main_v7 : IVec S_ 1 := andi main_v3 main_v6
  let main_c_2 : IVec S_ 32 := constantI S_ 32 16#32
  let main_v8 : IVec S32768 32 := broadcastInDim S32768 ![] bcast_S_S32768 main_c_2
  let main_v9 : IVec S32768 1 := cmpi .slt main_arg5 main_v8
  let main_c_3 : IVec S_ 1 := constantI S_ 1 1#1
  let main_v10 : IVec S_ 1 := (fun x v => Host.reduce IntOp.andi x v reducesTo_S32768_S_d0 h_S_) main_v9 main_c_3
  let main_v11 : IVec S_ 1 := andi main_v7 main_v10
  main_v11
-- ==== Kernel.lean ====
abbrev S32768x64 : Shape := ⟨2, ![32768, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S32768 : Shape := ⟨1, ![32768]⟩
abbrev S2097152 : Shape := ⟨1, ![2097152]⟩
abbrev S512 : Shape := ⟨1, ![512]⟩
abbrev S65536 : Shape := ⟨1, ![65536]⟩
abbrev S1024 : Shape := ⟨1, ![1024]⟩
abbrev S16 : Shape := ⟨1, ![16]⟩
abbrev S32 : Shape := ⟨1, ![32]⟩
abbrev S_ : Shape := ⟨0, ![]⟩
abbrev S32x16x64 : Shape := ⟨3, ![32, 16, 64]⟩
abbrev S32x16 : Shape := ⟨2, ![32, 16]⟩
abbrev S1x64 : Shape := ⟨2, ![1, 64]⟩
abbrev S1x1 : Shape := ⟨2, ![1, 1]⟩
abbrev S16x1 : Shape := ⟨2, ![16, 1]⟩
abbrev S16x64 : Shape := ⟨2, ![16, 64]⟩

abbrev nBuf : Table → Nat
  | .hbm => 15
  | .local .tc .vmem => 7
  | .local .scVector .vmem => 5
  | _ => 0

abbrev bufTy : (tb : Table) → Fin (nBuf tb) → BufTy
  | .hbm, ⟨0, _⟩ => ⟨S32768x64, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S32768, .i32⟩
  | .hbm, ⟨6, _⟩ => ⟨S2097152, .f32⟩
  | .hbm, ⟨7, _⟩ => ⟨S32768, .f32⟩
  | .hbm, ⟨8, _⟩ => ⟨S512, .f32⟩
  | .hbm, ⟨9, _⟩ => ⟨S32x16x64, .f32⟩
  | .hbm, ⟨10, _⟩ => ⟨S32x16, .f32⟩
  | .hbm, ⟨11, _⟩ => ⟨S1x64, .f32⟩
  | .hbm, ⟨12, _⟩ => ⟨S1x64, .f32⟩
  | .hbm, ⟨13, _⟩ => ⟨S1x1, .f32⟩
  | .hbm, ⟨14, _⟩ => ⟨S16x1, .f32⟩
  | .local .tc .vmem, ⟨0, _⟩ => ⟨S32x16x64, .f32⟩
  | .local .tc .vmem, ⟨1, _⟩ => ⟨S32x16, .f32⟩
  | .local .tc .vmem, ⟨2, _⟩ => ⟨S64x64, .f32⟩
  | .local .tc .vmem, ⟨3, _⟩ => ⟨S1x64, .f32⟩
  | .local .tc .vmem, ⟨4, _⟩ => ⟨S1x64, .f32⟩
  | .local .tc .vmem, ⟨5, _⟩ => ⟨S1x1, .f32⟩
  | .local .tc .vmem, ⟨6, _⟩ => ⟨S16x1, .f32⟩
  | .local .scVector .vmem, ⟨0, _⟩ => ⟨S65536, .f32⟩
  | .local .scVector .vmem, ⟨1, _⟩ => ⟨S1024, .i32⟩
  | .local .scVector .vmem, ⟨2, _⟩ => ⟨S1024, .f32⟩
  | .local .scVector .vmem, ⟨3, _⟩ => ⟨S16, .f32⟩
  | .local .scVector .vmem, ⟨4, _⟩ => ⟨S32, .i32⟩
  | _, _ => ⟨S32768x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v0_scv : Ref sig .scVector := ⟨.hbm, 6, rfl⟩
abbrev main_arg5_scv : Ref sig .scVector := ⟨.hbm, 5, rfl⟩
abbrev main_v1_0_scv : Ref sig .scVector := ⟨.hbm, 7, rfl⟩
abbrev main_v1_1_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c64_i32 : BitVec 32 := 64#32
  let v3 : BitVec 32 := Scalar.muli v2 c64_i32
  ![v3.toNat]

def k0_chk1 (v36 : IVec S16 32) : Prop :=
  (∀ a x, ((![v36] : Fin 1 → IVec S16 32) a x).toNat < S1024.size a)
theorem k0_idx1_inb : ∀ (v36 : IVec S16 32) (k0_hw1 : k0_chk1 v36), ∀ a x, ((![v36] : Fin 1 → IVec S16 32) a x).toNat < S1024.size a := fun v36 k0_hw1 => k0_hw1

def k0_chk2 (v73 : IVec S16 32) : Prop :=
  (∀ a x, ((![v73] : Fin 1 → IVec S16 32) a x).toNat < S1024.size a)
theorem k0_idx2_inb : ∀ (v73 : IVec S16 32) (k0_hw2 : k0_chk2 v73), ∀ a x, ((![v73] : Fin 1 → IVec S16 32) a x).toNat < S1024.size a := fun v73 k0_hw2 => k0_hw2

def k0_chk3 (v110 : IVec S16 32) : Prop :=
  (∀ a x, ((![v110] : Fin 1 → IVec S16 32) a x).toNat < S1024.size a)
theorem k0_idx3_inb : ∀ (v110 : IVec S16 32) (k0_hw3 : k0_chk3 v110), ∀ a x, ((![v110] : Fin 1 → IVec S16 32) a x).toNat < S1024.size a := fun v110 k0_hw3 => k0_hw3

def k0_chk4 (v147 : IVec S16 32) : Prop :=
  (∀ a x, ((![v147] : Fin 1 → IVec S16 32) a x).toNat < S1024.size a)
theorem k0_idx4_inb : ∀ (v147 : IVec S16 32) (k0_hw4 : k0_chk4 v147), ∀ a x, ((![v147] : Fin 1 → IVec S16 32) a x).toNat < S1024.size a := fun v147 k0_hw4 => k0_hw4

def k0_chk5 (v184 : IVec S16 32) : Prop :=
  (∀ a x, ((![v184] : Fin 1 → IVec S16 32) a x).toNat < S1024.size a)
theorem k0_idx5_inb : ∀ (v184 : IVec S16 32) (k0_hw5 : k0_chk5 v184), ∀ a x, ((![v184] : Fin 1 → IVec S16 32) a x).toNat < S1024.size a := fun v184 k0_hw5 => k0_hw5

def k0_chk6 (v221 : IVec S16 32) : Prop :=
  (∀ a x, ((![v221] : Fin 1 → IVec S16 32) a x).toNat < S1024.size a)
theorem k0_idx6_inb : ∀ (v221 : IVec S16 32) (k0_hw6 : k0_chk6 v221), ∀ a x, ((![v221] : Fin 1 → IVec S16 32) a x).toNat < S1024.size a := fun v221 k0_hw6 => k0_hw6

def k0_chk7 (v258 : IVec S16 32) : Prop :=
  (∀ a x, ((![v258] : Fin 1 → IVec S16 32) a x).toNat < S1024.size a)
theorem k0_idx7_inb : ∀ (v258 : IVec S16 32) (k0_hw7 : k0_chk7 v258), ∀ a x, ((![v258] : Fin 1 → IVec S16 32) a x).toNat < S1024.size a := fun v258 k0_hw7 => k0_hw7

def k0_chk8 (v295 : IVec S16 32) : Prop :=
  (∀ a x, ((![v295] : Fin 1 → IVec S16 32) a x).toNat < S1024.size a)
theorem k0_idx8_inb : ∀ (v295 : IVec S16 32) (k0_hw8 : k0_chk8 v295), ∀ a x, ((![v295] : Fin 1 → IVec S16 32) a x).toNat < S1024.size a := fun v295 k0_hw8 => k0_hw8

def k0_chk9 (v332 : IVec S16 32) : Prop :=
  (∀ a x, ((![v332] : Fin 1 → IVec S16 32) a x).toNat < S1024.size a)
theorem k0_idx9_inb : ∀ (v332 : IVec S16 32) (k0_hw9 : k0_chk9 v332), ∀ a x, ((![v332] : Fin 1 → IVec S16 32) a x).toNat < S1024.size a := fun v332 k0_hw9 => k0_hw9

def k0_chk10 (v369 : IVec S16 32) : Prop :=
  (∀ a x, ((![v369] : Fin 1 → IVec S16 32) a x).toNat < S1024.size a)
theorem k0_idx10_inb : ∀ (v369 : IVec S16 32) (k0_hw10 : k0_chk10 v369), ∀ a x, ((![v369] : Fin 1 → IVec S16 32) a x).toNat < S1024.size a := fun v369 k0_hw10 => k0_hw10

def k0_chk11 (v406 : IVec S16 32) : Prop :=
  (∀ a x, ((![v406] : Fin 1 → IVec S16 32) a x).toNat < S1024.size a)
theorem k0_idx11_inb : ∀ (v406 : IVec S16 32) (k0_hw11 : k0_chk11 v406), ∀ a x, ((![v406] : Fin 1 → IVec S16 32) a x).toNat < S1024.size a := fun v406 k0_hw11 => k0_hw11
@[reducible] def k0_t1_loop (v425 : BitVec 32) : Scf.Loop 32 :=
  let c0_i32_112 : BitVec 32 := 0#32
  let v426 : BitVec 32 := Scalar.subi v425 c0_i32_112
  let c1_i32_113 : BitVec 32 := 1#32
  let v428 : BitVec 32 := Scalar.divsi v426 c1_i32_113
  let v429 : BitVec 32 := Scalar.muli v428 c1_i32_113
  let v430 : BitVec 32 := Scalar.addi c0_i32_112 v429
  let c1_i32_114 : BitVec 32 := 1#32
  ⟨c0_i32_112, v430, c1_i32_114⟩

def k0_off3 (v425 : BitVec 32) (k0_t1 : Fin (k0_t1_loop v425).trips) (c0_i32_167 : BitVec 32) : Fin 1 → Nat :=
  let c0_i32_112 : BitVec 32 := 0#32
  let c1_i32_114 : BitVec 32 := 1#32
  let arg11 : BitVec 32 := Scf.iv c0_i32_112 c1_i32_114 k0_t1
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t2_loop (v425 : BitVec 32) : Scf.Loop 32 :=
  let c0_i32_112 : BitVec 32 := 0#32
  let v426 : BitVec 32 := Scalar.subi v425 c0_i32_112
  let c1_i32_113 : BitVec 32 := 1#32
  let v428 : BitVec 32 := Scalar.divsi v426 c1_i32_113
  let v429 : BitVec 32 := Scalar.muli v428 c1_i32_113
  let v430 : BitVec 32 := Scalar.addi c0_i32_112 v429
  let v427 : BitVec 32 := Scalar.addi c0_i32_112 v426
  let c1_i32_115 : BitVec 32 := 1#32
  ⟨v430, v427, c1_i32_115⟩
def k0_off4 (v425 : BitVec 32) (k0_t2 : Fin (k0_t2_loop v425).trips) (c0_i32_167 : BitVec 32) : Fin 1 → Nat :=
  let c0_i32_112 : BitVec 32 := 0#32
  let v426 : BitVec 32 := Scalar.subi v425 c0_i32_112
  let c1_i32_113 : BitVec 32 := 1#32
  let v428 : BitVec 32 := Scalar.divsi v426 c1_i32_113
  let v429 : BitVec 32 := Scalar.muli v428 c1_i32_113
  let v430 : BitVec 32 := Scalar.addi c0_i32_112 v429
  let c1_i32_115 : BitVec 32 := 1#32
  let arg11 : BitVec 32 := Scf.iv v430 c1_i32_115 k0_t2
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk12 (v425 : BitVec 32) : Prop :=
  ((k0_t1_loop v425).OK) ∧
  (∀ k0_t1 : Fin (k0_t1_loop v425).trips, ∀ (r : Fin 4), ∀ a, (k0_off3 v425 k0_t1 (BitVec.ofNat 32 (16 * r.val))) a + S16.size a ≤ S65536.size a) ∧
  ((k0_t2_loop v425).OK) ∧
  (∀ k0_t2 : Fin (k0_t2_loop v425).trips, ∀ (r : Fin 4), ∀ a, (k0_off4 v425 k0_t2 (BitVec.ofNat 32 (16 * r.val))) a + S16.size a ≤ S65536.size a)
theorem k0_t1_ok : ∀ (v425 : BitVec 32) (k0_hw12 : k0_chk12 v425), (k0_t1_loop v425).OK := fun v425 k0_hw12 => k0_hw12.1
theorem k0_off3_inb : ∀ (v425 : BitVec 32) (k0_hw12 : k0_chk12 v425) (k0_t1 : Fin (k0_t1_loop v425).trips), ∀ (r : Fin 4), ∀ a, (k0_off3 v425 k0_t1 (BitVec.ofNat 32 (16 * r.val))) a + S16.size a ≤ S65536.size a := fun v425 k0_hw12 k0_t1 r => k0_hw12.2.1 k0_t1 r
theorem k0_t2_ok : ∀ (v425 : BitVec 32) (k0_hw12 : k0_chk12 v425), (k0_t2_loop v425).OK := fun v425 k0_hw12 => k0_hw12.2.2.1
theorem k0_off4_inb : ∀ (v425 : BitVec 32) (k0_hw12 : k0_chk12 v425) (k0_t2 : Fin (k0_t2_loop v425).trips), ∀ (r : Fin 4), ∀ a, (k0_off4 v425 k0_t2 (BitVec.ofNat 32 (16 * r.val))) a + S16.size a ≤ S65536.size a := fun v425 k0_hw12 k0_t2 r => k0_hw12.2.2.2 k0_t2 r

@[reducible] def k0_t3_loop (v425 : BitVec 32) (v438 : BitVec 32) : Scf.Loop 32 :=
  let v439 : BitVec 32 := Scalar.subi v438 v425
  let c1_i32_118 : BitVec 32 := 1#32
  let v441 : BitVec 32 := Scalar.divsi v439 c1_i32_118
  let v442 : BitVec 32 := Scalar.muli v441 c1_i32_118
  let v443 : BitVec 32 := Scalar.addi v425 v442
  let c1_i32_119 : BitVec 32 := 1#32
  ⟨v425, v443, c1_i32_119⟩

def k0_off5 (v425 : BitVec 32) (v438 : BitVec 32) (k0_t3 : Fin (k0_t3_loop v425 v438).trips) (c0_i32_167 : BitVec 32) : Fin 1 → Nat :=
  let c1_i32_119 : BitVec 32 := 1#32
  let arg11 : BitVec 32 := Scf.iv v425 c1_i32_119 k0_t3
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t4_loop (v425 : BitVec 32) (v438 : BitVec 32) : Scf.Loop 32 :=
  let v439 : BitVec 32 := Scalar.subi v438 v425
  let c1_i32_118 : BitVec 32 := 1#32
  let v441 : BitVec 32 := Scalar.divsi v439 c1_i32_118
  let v442 : BitVec 32 := Scalar.muli v441 c1_i32_118
  let v443 : BitVec 32 := Scalar.addi v425 v442
  let v440 : BitVec 32 := Scalar.addi v425 v439
  let c1_i32_120 : BitVec 32 := 1#32
  ⟨v443, v440, c1_i32_120⟩
def k0_off6 (v425 : BitVec 32) (v438 : BitVec 32) (k0_t4 : Fin (k0_t4_loop v425 v438).trips) (c0_i32_167 : BitVec 32) : Fin 1 → Nat :=
  let v439 : BitVec 32 := Scalar.subi v438 v425
  let c1_i32_118 : BitVec 32 := 1#32
  let v441 : BitVec 32 := Scalar.divsi v439 c1_i32_118
  let v442 : BitVec 32 := Scalar.muli v441 c1_i32_118
  let v443 : BitVec 32 := Scalar.addi v425 v442
  let c1_i32_120 : BitVec 32 := 1#32
  let arg11 : BitVec 32 := Scf.iv v443 c1_i32_120 k0_t4
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk13 (v425 : BitVec 32) (v438 : BitVec 32) : Prop :=
  ((k0_t3_loop v425 v438).OK) ∧
  (∀ k0_t3 : Fin (k0_t3_loop v425 v438).trips, ∀ (r : Fin 4), ∀ a, (k0_off5 v425 v438 k0_t3 (BitVec.ofNat 32 (16 * r.val))) a + S16.size a ≤ S65536.size a) ∧
  ((k0_t4_loop v425 v438).OK) ∧
  (∀ k0_t4 : Fin (k0_t4_loop v425 v438).trips, ∀ (r : Fin 4), ∀ a, (k0_off6 v425 v438 k0_t4 (BitVec.ofNat 32 (16 * r.val))) a + S16.size a ≤ S65536.size a)
theorem k0_t3_ok : ∀ (v425 : BitVec 32) (v438 : BitVec 32) (k0_hw13 : k0_chk13 v425 v438), (k0_t3_loop v425 v438).OK := fun v425 v438 k0_hw13 => k0_hw13.1
theorem k0_off5_inb : ∀ (v425 : BitVec 32) (v438 : BitVec 32) (k0_hw13 : k0_chk13 v425 v438) (k0_t3 : Fin (k0_t3_loop v425 v438).trips), ∀ (r : Fin 4), ∀ a, (k0_off5 v425 v438 k0_t3 (BitVec.ofNat 32 (16 * r.val))) a + S16.size a ≤ S65536.size a := fun v425 v438 k0_hw13 k0_t3 r => k0_hw13.2.1 k0_t3 r
theorem k0_t4_ok : ∀ (v425 : BitVec 32) (v438 : BitVec 32) (k0_hw13 : k0_chk13 v425 v438), (k0_t4_loop v425 v438).OK := fun v425 v438 k0_hw13 => k0_hw13.2.2.1
theorem k0_off6_inb : ∀ (v425 : BitVec 32) (v438 : BitVec 32) (k0_hw13 : k0_chk13 v425 v438) (k0_t4 : Fin (k0_t4_loop v425 v438).trips), ∀ (r : Fin 4), ∀ a, (k0_off6 v425 v438 k0_t4 (BitVec.ofNat 32 (16 * r.val))) a + S16.size a ≤ S65536.size a := fun v425 v438 k0_hw13 k0_t4 r => k0_hw13.2.2.2 k0_t4 r

@[reducible] def k0_t5_loop (v438 : BitVec 32) (v451 : BitVec 32) : Scf.Loop 32 :=
  let v452 : BitVec 32 := Scalar.subi v451 v438
  let c1_i32_121 : BitVec 32 := 1#32
  let v454 : BitVec 32 := Scalar.divsi v452 c1_i32_121
  let v455 : BitVec 32 := Scalar.muli v454 c1_i32_121
  let v456 : BitVec 32 := Scalar.addi v438 v455
  let c1_i32_122 : BitVec 32 := 1#32
  ⟨v438, v456, c1_i32_122⟩

def k0_off7 (v438 : BitVec 32) (v451 : BitVec 32) (k0_t5 : Fin (k0_t5_loop v438 v451).trips) (c0_i32_167 : BitVec 32) : Fin 1 → Nat :=
  let c1_i32_122 : BitVec 32 := 1#32
  let arg11 : BitVec 32 := Scf.iv v438 c1_i32_122 k0_t5
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t6_loop (v438 : BitVec 32) (v451 : BitVec 32) : Scf.Loop 32 :=
  let v452 : BitVec 32 := Scalar.subi v451 v438
  let c1_i32_121 : BitVec 32 := 1#32
  let v454 : BitVec 32 := Scalar.divsi v452 c1_i32_121
  let v455 : BitVec 32 := Scalar.muli v454 c1_i32_121
  let v456 : BitVec 32 := Scalar.addi v438 v455
  let v453 : BitVec 32 := Scalar.addi v438 v452
  let c1_i32_123 : BitVec 32 := 1#32
  ⟨v456, v453, c1_i32_123⟩
def k0_off8 (v438 : BitVec 32) (v451 : BitVec 32) (k0_t6 : Fin (k0_t6_loop v438 v451).trips) (c0_i32_167 : BitVec 32) : Fin 1 → Nat :=
  let v452 : BitVec 32 := Scalar.subi v451 v438
  let c1_i32_121 : BitVec 32 := 1#32
  let v454 : BitVec 32 := Scalar.divsi v452 c1_i32_121
  let v455 : BitVec 32 := Scalar.muli v454 c1_i32_121
  let v456 : BitVec 32 := Scalar.addi v438 v455
  let c1_i32_123 : BitVec 32 := 1#32
  let arg11 : BitVec 32 := Scf.iv v456 c1_i32_123 k0_t6
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk14 (v438 : BitVec 32) (v451 : BitVec 32) : Prop :=
  ((k0_t5_loop v438 v451).OK) ∧
  (∀ k0_t5 : Fin (k0_t5_loop v438 v451).trips, ∀ (r : Fin 4), ∀ a, (k0_off7 v438 v451 k0_t5 (BitVec.ofNat 32 (16 * r.val))) a + S16.size a ≤ S65536.size a) ∧
  ((k0_t6_loop v438 v451).OK) ∧
  (∀ k0_t6 : Fin (k0_t6_loop v438 v451).trips, ∀ (r : Fin 4), ∀ a, (k0_off8 v438 v451 k0_t6 (BitVec.ofNat 32 (16 * r.val))) a + S16.size a ≤ S65536.size a)
theorem k0_t5_ok : ∀ (v438 : BitVec 32) (v451 : BitVec 32) (k0_hw14 : k0_chk14 v438 v451), (k0_t5_loop v438 v451).OK := fun v438 v451 k0_hw14 => k0_hw14.1
theorem k0_off7_inb : ∀ (v438 : BitVec 32) (v451 : BitVec 32) (k0_hw14 : k0_chk14 v438 v451) (k0_t5 : Fin (k0_t5_loop v438 v451).trips), ∀ (r : Fin 4), ∀ a, (k0_off7 v438 v451 k0_t5 (BitVec.ofNat 32 (16 * r.val))) a + S16.size a ≤ S65536.size a := fun v438 v451 k0_hw14 k0_t5 r => k0_hw14.2.1 k0_t5 r
theorem k0_t6_ok : ∀ (v438 : BitVec 32) (v451 : BitVec 32) (k0_hw14 : k0_chk14 v438 v451), (k0_t6_loop v438 v451).OK := fun v438 v451 k0_hw14 => k0_hw14.2.2.1
theorem k0_off8_inb : ∀ (v438 : BitVec 32) (v451 : BitVec 32) (k0_hw14 : k0_chk14 v438 v451) (k0_t6 : Fin (k0_t6_loop v438 v451).trips), ∀ (r : Fin 4), ∀ a, (k0_off8 v438 v451 k0_t6 (BitVec.ofNat 32 (16 * r.val))) a + S16.size a ≤ S65536.size a := fun v438 v451 k0_hw14 k0_t6 r => k0_hw14.2.2.2 k0_t6 r

@[reducible] def k0_t7_loop (v451 : BitVec 32) (v464 : BitVec 32) : Scf.Loop 32 :=
  let v465 : BitVec 32 := Scalar.subi v464 v451
  let c1_i32_124 : BitVec 32 := 1#32
  let v467 : BitVec 32 := Scalar.divsi v465 c1_i32_124
  let v468 : BitVec 32 := Scalar.muli v467 c1_i32_124
  let v469 : BitVec 32 := Scalar.addi v451 v468
  let c1_i32_125 : BitVec 32 := 1#32
  ⟨v451, v469, c1_i32_125⟩

def k0_off9 (v451 : BitVec 32) (v464 : BitVec 32) (k0_t7 : Fin (k0_t7_loop v451 v464).trips) (c0_i32_167 : BitVec 32) : Fin 1 → Nat :=
  let c1_i32_125 : BitVec 32 := 1#32
  let arg11 : BitVec 32 := Scf.iv v451 c1_i32_125 k0_t7
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t8_loop (v451 : BitVec 32) (v464 : BitVec 32) : Scf.Loop 32 :=
  let v465 : BitVec 32 := Scalar.subi v464 v451
  let c1_i32_124 : BitVec 32 := 1#32
  let v467 : BitVec 32 := Scalar.divsi v465 c1_i32_124
  let v468 : BitVec 32 := Scalar.muli v467 c1_i32_124
  let v469 : BitVec 32 := Scalar.addi v451 v468
  let v466 : BitVec 32 := Scalar.addi v451 v465
  let c1_i32_126 : BitVec 32 := 1#32
  ⟨v469, v466, c1_i32_126⟩
def k0_off10 (v451 : BitVec 32) (v464 : BitVec 32) (k0_t8 : Fin (k0_t8_loop v451 v464).trips) (c0_i32_167 : BitVec 32) : Fin 1 → Nat :=
  let v465 : BitVec 32 := Scalar.subi v464 v451
  let c1_i32_124 : BitVec 32 := 1#32
  let v467 : BitVec 32 := Scalar.divsi v465 c1_i32_124
  let v468 : BitVec 32 := Scalar.muli v467 c1_i32_124
  let v469 : BitVec 32 := Scalar.addi v451 v468
  let c1_i32_126 : BitVec 32 := 1#32
  let arg11 : BitVec 32 := Scf.iv v469 c1_i32_126 k0_t8
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk15 (v451 : BitVec 32) (v464 : BitVec 32) : Prop :=
  ((k0_t7_loop v451 v464).OK) ∧
  (∀ k0_t7 : Fin (k0_t7_loop v451 v464).trips, ∀ (r : Fin 4), ∀ a, (k0_off9 v451 v464 k0_t7 (BitVec.ofNat 32 (16 * r.val))) a + S16.size a ≤ S65536.size a) ∧
  ((k0_t8_loop v451 v464).OK) ∧
  (∀ k0_t8 : Fin (k0_t8_loop v451 v464).trips, ∀ (r : Fin 4), ∀ a, (k0_off10 v451 v464 k0_t8 (BitVec.ofNat 32 (16 * r.val))) a + S16.size a ≤ S65536.size a)
theorem k0_t7_ok : ∀ (v451 : BitVec 32) (v464 : BitVec 32) (k0_hw15 : k0_chk15 v451 v464), (k0_t7_loop v451 v464).OK := fun v451 v464 k0_hw15 => k0_hw15.1
theorem k0_off9_inb : ∀ (v451 : BitVec 32) (v464 : BitVec 32) (k0_hw15 : k0_chk15 v451 v464) (k0_t7 : Fin (k0_t7_loop v451 v464).trips), ∀ (r : Fin 4), ∀ a, (k0_off9 v451 v464 k0_t7 (BitVec.ofNat 32 (16 * r.val))) a + S16.size a ≤ S65536.size a := fun v451 v464 k0_hw15 k0_t7 r => k0_hw15.2.1 k0_t7 r
theorem k0_t8_ok : ∀ (v451 : BitVec 32) (v464 : BitVec 32) (k0_hw15 : k0_chk15 v451 v464), (k0_t8_loop v451 v464).OK := fun v451 v464 k0_hw15 => k0_hw15.2.2.1
theorem k0_off10_inb : ∀ (v451 : BitVec 32) (v464 : BitVec 32) (k0_hw15 : k0_chk15 v451 v464) (k0_t8 : Fin (k0_t8_loop v451 v464).trips), ∀ (r : Fin 4), ∀ a, (k0_off10 v451 v464 k0_t8 (BitVec.ofNat 32 (16 * r.val))) a + S16.size a ≤ S65536.size a := fun v451 v464 k0_hw15 k0_t8 r => k0_hw15.2.2.2 k0_t8 r

@[reducible] def k0_t9_loop (v464 : BitVec 32) (v477 : BitVec 32) : Scf.Loop 32 :=
  let v478 : BitVec 32 := Scalar.subi v477 v464
  let c1_i32_127 : BitVec 32 := 1#32
  let v480 : BitVec 32 := Scalar.divsi v478 c1_i32_127
  let v481 : BitVec 32 := Scalar.muli v480 c1_i32_127
  let v482 : BitVec 32 := Scalar.addi v464 v481
  let c1_i32_128 : BitVec 32 := 1#32
  ⟨v464, v482, c1_i32_128⟩

def k0_off11 (v464 : BitVec 32) (v477 : BitVec 32) (k0_t9 : Fin (k0_t9_loop v464 v477).trips) (c0_i32_167 : BitVec 32) : Fin 1 → Nat :=
  let c1_i32_128 : BitVec 32 := 1#32
  let arg11 : BitVec 32 := Scf.iv v464 c1_i32_128 k0_t9
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t10_loop (v464 : BitVec 32) (v477 : BitVec 32) : Scf.Loop 32 :=
  let v478 : BitVec 32 := Scalar.subi v477 v464
  let c1_i32_127 : BitVec 32 := 1#32
  let v480 : BitVec 32 := Scalar.divsi v478 c1_i32_127
  let v481 : BitVec 32 := Scalar.muli v480 c1_i32_127
  let v482 : BitVec 32 := Scalar.addi v464 v481
  let v479 : BitVec 32 := Scalar.addi v464 v478
  let c1_i32_129 : BitVec 32 := 1#32
  ⟨v482, v479, c1_i32_129⟩
def k0_off12 (v464 : BitVec 32) (v477 : BitVec 32) (k0_t10 : Fin (k0_t10_loop v464 v477).trips) (c0_i32_167 : BitVec 32) : Fin 1 → Nat :=
  let v478 : BitVec 32 := Scalar.subi v477 v464
  let c1_i32_127 : BitVec 32 := 1#32
  let v480 : BitVec 32 := Scalar.divsi v478 c1_i32_127
  let v481 : BitVec 32 := Scalar.muli v480 c1_i32_127
  let v482 : BitVec 32 := Scalar.addi v464 v481
  let c1_i32_129 : BitVec 32 := 1#32
  let arg11 : BitVec 32 := Scf.iv v482 c1_i32_129 k0_t10
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk16 (v464 : BitVec 32) (v477 : BitVec 32) : Prop :=
  ((k0_t9_loop v464 v477).OK) ∧
  (∀ k0_t9 : Fin (k0_t9_loop v464 v477).trips, ∀ (r : Fin 4), ∀ a, (k0_off11 v464 v477 k0_t9 (BitVec.ofNat 32 (16 * r.val))) a + S16.size a ≤ S65536.size a) ∧
  ((k0_t10_loop v464 v477).OK) ∧
  (∀ k0_t10 : Fin (k0_t10_loop v464 v477).trips, ∀ (r : Fin 4), ∀ a, (k0_off12 v464 v477 k0_t10 (BitVec.ofNat 32 (16 * r.val))) a + S16.size a ≤ S65536.size a)
theorem k0_t9_ok : ∀ (v464 : BitVec 32) (v477 : BitVec 32) (k0_hw16 : k0_chk16 v464 v477), (k0_t9_loop v464 v477).OK := fun v464 v477 k0_hw16 => k0_hw16.1
theorem k0_off11_inb : ∀ (v464 : BitVec 32) (v477 : BitVec 32) (k0_hw16 : k0_chk16 v464 v477) (k0_t9 : Fin (k0_t9_loop v464 v477).trips), ∀ (r : Fin 4), ∀ a, (k0_off11 v464 v477 k0_t9 (BitVec.ofNat 32 (16 * r.val))) a + S16.size a ≤ S65536.size a := fun v464 v477 k0_hw16 k0_t9 r => k0_hw16.2.1 k0_t9 r
theorem k0_t10_ok : ∀ (v464 : BitVec 32) (v477 : BitVec 32) (k0_hw16 : k0_chk16 v464 v477), (k0_t10_loop v464 v477).OK := fun v464 v477 k0_hw16 => k0_hw16.2.2.1
theorem k0_off12_inb : ∀ (v464 : BitVec 32) (v477 : BitVec 32) (k0_hw16 : k0_chk16 v464 v477) (k0_t10 : Fin (k0_t10_loop v464 v477).trips), ∀ (r : Fin 4), ∀ a, (k0_off12 v464 v477 k0_t10 (BitVec.ofNat 32 (16 * r.val))) a + S16.size a ≤ S65536.size a := fun v464 v477 k0_hw16 k0_t10 r => k0_hw16.2.2.2 k0_t10 r

@[reducible] def k0_t11_loop (v477 : BitVec 32) (v490 : BitVec 32) : Scf.Loop 32 :=
  let v491 : BitVec 32 := Scalar.subi v490 v477
  let c1_i32_130 : BitVec 32 := 1#32
  let v493 : BitVec 32 := Scalar.divsi v491 c1_i32_130
  let v494 : BitVec 32 := Scalar.muli v493 c1_i32_130
  let v495 : BitVec 32 := Scalar.addi v477 v494
  let c1_i32_131 : BitVec 32 := 1#32
  ⟨v477, v495, c1_i32_131⟩

def k0_off13 (v477 : BitVec 32) (v490 : BitVec 32) (k0_t11 : Fin (k0_t11_loop v477 v490).trips) (c0_i32_167 : BitVec 32) : Fin 1 → Nat :=
  let c1_i32_131 : BitVec 32 := 1#32
  let arg11 : BitVec 32 := Scf.iv v477 c1_i32_131 k0_t11
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t12_loop (v477 : BitVec 32) (v490 : BitVec 32) : Scf.Loop 32 :=
  let v491 : BitVec 32 := Scalar.subi v490 v477
  let c1_i32_130 : BitVec 32 := 1#32
  let v493 : BitVec 32 := Scalar.divsi v491 c1_i32_130
  let v494 : BitVec 32 := Scalar.muli v493 c1_i32_130
  let v495 : BitVec 32 := Scalar.addi v477 v494
  let v492 : BitVec 32 := Scalar.addi v477 v491
  let c1_i32_132 : BitVec 32 := 1#32
  ⟨v495, v492, c1_i32_132⟩
def k0_off14 (v477 : BitVec 32) (v490 : BitVec 32) (k0_t12 : Fin (k0_t12_loop v477 v490).trips) (c0_i32_167 : BitVec 32) : Fin 1 → Nat :=
  let v491 : BitVec 32 := Scalar.subi v490 v477
  let c1_i32_130 : BitVec 32 := 1#32
  let v493 : BitVec 32 := Scalar.divsi v491 c1_i32_130
  let v494 : BitVec 32 := Scalar.muli v493 c1_i32_130
  let v495 : BitVec 32 := Scalar.addi v477 v494
  let c1_i32_132 : BitVec 32 := 1#32
  let arg11 : BitVec 32 := Scf.iv v495 c1_i32_132 k0_t12
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk17 (v477 : BitVec 32) (v490 : BitVec 32) : Prop :=
  ((k0_t11_loop v477 v490).OK) ∧
  (∀ k0_t11 : Fin (k0_t11_loop v477 v490).trips, ∀ (r : Fin 4), ∀ a, (k0_off13 v477 v490 k0_t11 (BitVec.ofNat 32 (16 * r.val))) a + S16.size a ≤ S65536.size a) ∧
  ((k0_t12_loop v477 v490).OK) ∧
  (∀ k0_t12 : Fin (k0_t12_loop v477 v490).trips, ∀ (r : Fin 4), ∀ a, (k0_off14 v477 v490 k0_t12 (BitVec.ofNat 32 (16 * r.val))) a + S16.size a ≤ S65536.size a)
theorem k0_t11_ok : ∀ (v477 : BitVec 32) (v490 : BitVec 32) (k0_hw17 : k0_chk17 v477 v490), (k0_t11_loop v477 v490).OK := fun v477 v490 k0_hw17 => k0_hw17.1
theorem k0_off13_inb : ∀ (v477 : BitVec 32) (v490 : BitVec 32) (k0_hw17 : k0_chk17 v477 v490) (k0_t11 : Fin (k0_t11_loop v477 v490).trips), ∀ (r : Fin 4), ∀ a, (k0_off13 v477 v490 k0_t11 (BitVec.ofNat 32 (16 * r.val))) a + S16.size a ≤ S65536.size a := fun v477 v490 k0_hw17 k0_t11 r => k0_hw17.2.1 k0_t11 r
theorem k0_t12_ok : ∀ (v477 : BitVec 32) (v490 : BitVec 32) (k0_hw17 : k0_chk17 v477 v490), (k0_t12_loop v477 v490).OK := fun v477 v490 k0_hw17 => k0_hw17.2.2.1
theorem k0_off14_inb : ∀ (v477 : BitVec 32) (v490 : BitVec 32) (k0_hw17 : k0_chk17 v477 v490) (k0_t12 : Fin (k0_t12_loop v477 v490).trips), ∀ (r : Fin 4), ∀ a, (k0_off14 v477 v490 k0_t12 (BitVec.ofNat 32 (16 * r.val))) a + S16.size a ≤ S65536.size a := fun v477 v490 k0_hw17 k0_t12 r => k0_hw17.2.2.2 k0_t12 r

@[reducible] def k0_t13_loop (v490 : BitVec 32) (v503 : BitVec 32) : Scf.Loop 32 :=
  let v504 : BitVec 32 := Scalar.subi v503 v490
  let c1_i32_133 : BitVec 32 := 1#32
  let v506 : BitVec 32 := Scalar.divsi v504 c1_i32_133
  let v507 : BitVec 32 := Scalar.muli v506 c1_i32_133
  let v508 : BitVec 32 := Scalar.addi v490 v507
  let c1_i32_134 : BitVec 32 := 1#32
  ⟨v490, v508, c1_i32_134⟩

def k0_off15 (v490 : BitVec 32) (v503 : BitVec 32) (k0_t13 : Fin (k0_t13_loop v490 v503).trips) (c0_i32_167 : BitVec 32) : Fin 1 → Nat :=
  let c1_i32_134 : BitVec 32 := 1#32
  let arg11 : BitVec 32 := Scf.iv v490 c1_i32_134 k0_t13
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t14_loop (v490 : BitVec 32) (v503 : BitVec 32) : Scf.Loop 32 :=
  let v504 : BitVec 32 := Scalar.subi v503 v490
  let c1_i32_133 : BitVec 32 := 1#32
  let v506 : BitVec 32 := Scalar.divsi v504 c1_i32_133
  let v507 : BitVec 32 := Scalar.muli v506 c1_i32_133
  let v508 : BitVec 32 := Scalar.addi v490 v507
  let v505 : BitVec 32 := Scalar.addi v490 v504
  let c1_i32_135 : BitVec 32 := 1#32
  ⟨v508, v505, c1_i32_135⟩
def k0_off16 (v490 : BitVec 32) (v503 : BitVec 32) (k0_t14 : Fin (k0_t14_loop v490 v503).trips) (c0_i32_167 : BitVec 32) : Fin 1 → Nat :=
  let v504 : BitVec 32 := Scalar.subi v503 v490
  let c1_i32_133 : BitVec 32 := 1#32
  let v506 : BitVec 32 := Scalar.divsi v504 c1_i32_133
  let v507 : BitVec 32 := Scalar.muli v506 c1_i32_133
  let v508 : BitVec 32 := Scalar.addi v490 v507
  let c1_i32_135 : BitVec 32 := 1#32
  let arg11 : BitVec 32 := Scf.iv v508 c1_i32_135 k0_t14
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk18 (v490 : BitVec 32) (v503 : BitVec 32) : Prop :=
  ((k0_t13_loop v490 v503).OK) ∧
  (∀ k0_t13 : Fin (k0_t13_loop v490 v503).trips, ∀ (r : Fin 4), ∀ a, (k0_off15 v490 v503 k0_t13 (BitVec.ofNat 32 (16 * r.val))) a + S16.size a ≤ S65536.size a) ∧
  ((k0_t14_loop v490 v503).OK) ∧
  (∀ k0_t14 : Fin (k0_t14_loop v490 v503).trips, ∀ (r : Fin 4), ∀ a, (k0_off16 v490 v503 k0_t14 (BitVec.ofNat 32 (16 * r.val))) a + S16.size a ≤ S65536.size a)
theorem k0_t13_ok : ∀ (v490 : BitVec 32) (v503 : BitVec 32) (k0_hw18 : k0_chk18 v490 v503), (k0_t13_loop v490 v503).OK := fun v490 v503 k0_hw18 => k0_hw18.1
theorem k0_off15_inb : ∀ (v490 : BitVec 32) (v503 : BitVec 32) (k0_hw18 : k0_chk18 v490 v503) (k0_t13 : Fin (k0_t13_loop v490 v503).trips), ∀ (r : Fin 4), ∀ a, (k0_off15 v490 v503 k0_t13 (BitVec.ofNat 32 (16 * r.val))) a + S16.size a ≤ S65536.size a := fun v490 v503 k0_hw18 k0_t13 r => k0_hw18.2.1 k0_t13 r
theorem k0_t14_ok : ∀ (v490 : BitVec 32) (v503 : BitVec 32) (k0_hw18 : k0_chk18 v490 v503), (k0_t14_loop v490 v503).OK := fun v490 v503 k0_hw18 => k0_hw18.2.2.1
theorem k0_off16_inb : ∀ (v490 : BitVec 32) (v503 : BitVec 32) (k0_hw18 : k0_chk18 v490 v503) (k0_t14 : Fin (k0_t14_loop v490 v503).trips), ∀ (r : Fin 4), ∀ a, (k0_off16 v490 v503 k0_t14 (BitVec.ofNat 32 (16 * r.val))) a + S16.size a ≤ S65536.size a := fun v490 v503 k0_hw18 k0_t14 r => k0_hw18.2.2.2 k0_t14 r

@[reducible] def k0_t15_loop (v503 : BitVec 32) (v516 : BitVec 32) : Scf.Loop 32 :=
  let v517 : BitVec 32 := Scalar.subi v516 v503
  let c1_i32_136 : BitVec 32 := 1#32
  let v519 : BitVec 32 := Scalar.divsi v517 c1_i32_136
  let v520 : BitVec 32 := Scalar.muli v519 c1_i32_136
  let v521 : BitVec 32 := Scalar.addi v503 v520
  let c1_i32_137 : BitVec 32 := 1#32
  ⟨v503, v521, c1_i32_137⟩

def k0_off17 (v503 : BitVec 32) (v516 : BitVec 32) (k0_t15 : Fin (k0_t15_loop v503 v516).trips) (c0_i32_167 : BitVec 32) : Fin 1 → Nat :=
  let c1_i32_137 : BitVec 32 := 1#32
  let arg11 : BitVec 32 := Scf.iv v503 c1_i32_137 k0_t15
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t16_loop (v503 : BitVec 32) (v516 : BitVec 32) : Scf.Loop 32 :=
  let v517 : BitVec 32 := Scalar.subi v516 v503
  let c1_i32_136 : BitVec 32 := 1#32
  let v519 : BitVec 32 := Scalar.divsi v517 c1_i32_136
  let v520 : BitVec 32 := Scalar.muli v519 c1_i32_136
  let v521 : BitVec 32 := Scalar.addi v503 v520
  let v518 : BitVec 32 := Scalar.addi v503 v517
  let c1_i32_138 : BitVec 32 := 1#32
  ⟨v521, v518, c1_i32_138⟩
def k0_off18 (v503 : BitVec 32) (v516 : BitVec 32) (k0_t16 : Fin (k0_t16_loop v503 v516).trips) (c0_i32_167 : BitVec 32) : Fin 1 → Nat :=
  let v517 : BitVec 32 := Scalar.subi v516 v503
  let c1_i32_136 : BitVec 32 := 1#32
  let v519 : BitVec 32 := Scalar.divsi v517 c1_i32_136
  let v520 : BitVec 32 := Scalar.muli v519 c1_i32_136
  let v521 : BitVec 32 := Scalar.addi v503 v520
  let c1_i32_138 : BitVec 32 := 1#32
  let arg11 : BitVec 32 := Scf.iv v521 c1_i32_138 k0_t16
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk19 (v503 : BitVec 32) (v516 : BitVec 32) : Prop :=
  ((k0_t15_loop v503 v516).OK) ∧
  (∀ k0_t15 : Fin (k0_t15_loop v503 v516).trips, ∀ (r : Fin 4), ∀ a, (k0_off17 v503 v516 k0_t15 (BitVec.ofNat 32 (16 * r.val))) a + S16.size a ≤ S65536.size a) ∧
  ((k0_t16_loop v503 v516).OK) ∧
  (∀ k0_t16 : Fin (k0_t16_loop v503 v516).trips, ∀ (r : Fin 4), ∀ a, (k0_off18 v503 v516 k0_t16 (BitVec.ofNat 32 (16 * r.val))) a + S16.size a ≤ S65536.size a)
theorem k0_t15_ok : ∀ (v503 : BitVec 32) (v516 : BitVec 32) (k0_hw19 : k0_chk19 v503 v516), (k0_t15_loop v503 v516).OK := fun v503 v516 k0_hw19 => k0_hw19.1
theorem k0_off17_inb : ∀ (v503 : BitVec 32) (v516 : BitVec 32) (k0_hw19 : k0_chk19 v503 v516) (k0_t15 : Fin (k0_t15_loop v503 v516).trips), ∀ (r : Fin 4), ∀ a, (k0_off17 v503 v516 k0_t15 (BitVec.ofNat 32 (16 * r.val))) a + S16.size a ≤ S65536.size a := fun v503 v516 k0_hw19 k0_t15 r => k0_hw19.2.1 k0_t15 r
theorem k0_t16_ok : ∀ (v503 : BitVec 32) (v516 : BitVec 32) (k0_hw19 : k0_chk19 v503 v516), (k0_t16_loop v503 v516).OK := fun v503 v516 k0_hw19 => k0_hw19.2.2.1
theorem k0_off18_inb : ∀ (v503 : BitVec 32) (v516 : BitVec 32) (k0_hw19 : k0_chk19 v503 v516) (k0_t16 : Fin (k0_t16_loop v503 v516).trips), ∀ (r : Fin 4), ∀ a, (k0_off18 v503 v516 k0_t16 (BitVec.ofNat 32 (16 * r.val))) a + S16.size a ≤ S65536.size a := fun v503 v516 k0_hw19 k0_t16 r => k0_hw19.2.2.2 k0_t16 r

@[reducible] def k0_t17_loop (v516 : BitVec 32) (v529 : BitVec 32) : Scf.Loop 32 :=
  let v530 : BitVec 32 := Scalar.subi v529 v516
  let c1_i32_139 : BitVec 32 := 1#32
  let v532 : BitVec 32 := Scalar.divsi v530 c1_i32_139
  let v533 : BitVec 32 := Scalar.muli v532 c1_i32_139
  let v534 : BitVec 32 := Scalar.addi v516 v533
  let c1_i32_140 : BitVec 32 := 1#32
  ⟨v516, v534, c1_i32_140⟩

def k0_off19 (v516 : BitVec 32) (v529 : BitVec 32) (k0_t17 : Fin (k0_t17_loop v516 v529).trips) (c0_i32_167 : BitVec 32) : Fin 1 → Nat :=
  let c1_i32_140 : BitVec 32 := 1#32
  let arg11 : BitVec 32 := Scf.iv v516 c1_i32_140 k0_t17
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t18_loop (v516 : BitVec 32) (v529 : BitVec 32) : Scf.Loop 32 :=
  let v530 : BitVec 32 := Scalar.subi v529 v516
  let c1_i32_139 : BitVec 32 := 1#32
  let v532 : BitVec 32 := Scalar.divsi v530 c1_i32_139
  let v533 : BitVec 32 := Scalar.muli v532 c1_i32_139
  let v534 : BitVec 32 := Scalar.addi v516 v533
  let v531 : BitVec 32 := Scalar.addi v516 v530
  let c1_i32_141 : BitVec 32 := 1#32
  ⟨v534, v531, c1_i32_141⟩
def k0_off20 (v516 : BitVec 32) (v529 : BitVec 32) (k0_t18 : Fin (k0_t18_loop v516 v529).trips) (c0_i32_167 : BitVec 32) : Fin 1 → Nat :=
  let v530 : BitVec 32 := Scalar.subi v529 v516
  let c1_i32_139 : BitVec 32 := 1#32
  let v532 : BitVec 32 := Scalar.divsi v530 c1_i32_139
  let v533 : BitVec 32 := Scalar.muli v532 c1_i32_139
  let v534 : BitVec 32 := Scalar.addi v516 v533
  let c1_i32_141 : BitVec 32 := 1#32
  let arg11 : BitVec 32 := Scf.iv v534 c1_i32_141 k0_t18
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk20 (v516 : BitVec 32) (v529 : BitVec 32) : Prop :=
  ((k0_t17_loop v516 v529).OK) ∧
  (∀ k0_t17 : Fin (k0_t17_loop v516 v529).trips, ∀ (r : Fin 4), ∀ a, (k0_off19 v516 v529 k0_t17 (BitVec.ofNat 32 (16 * r.val))) a + S16.size a ≤ S65536.size a) ∧
  ((k0_t18_loop v516 v529).OK) ∧
  (∀ k0_t18 : Fin (k0_t18_loop v516 v529).trips, ∀ (r : Fin 4), ∀ a, (k0_off20 v516 v529 k0_t18 (BitVec.ofNat 32 (16 * r.val))) a + S16.size a ≤ S65536.size a)
theorem k0_t17_ok : ∀ (v516 : BitVec 32) (v529 : BitVec 32) (k0_hw20 : k0_chk20 v516 v529), (k0_t17_loop v516 v529).OK := fun v516 v529 k0_hw20 => k0_hw20.1
theorem k0_off19_inb : ∀ (v516 : BitVec 32) (v529 : BitVec 32) (k0_hw20 : k0_chk20 v516 v529) (k0_t17 : Fin (k0_t17_loop v516 v529).trips), ∀ (r : Fin 4), ∀ a, (k0_off19 v516 v529 k0_t17 (BitVec.ofNat 32 (16 * r.val))) a + S16.size a ≤ S65536.size a := fun v516 v529 k0_hw20 k0_t17 r => k0_hw20.2.1 k0_t17 r
theorem k0_t18_ok : ∀ (v516 : BitVec 32) (v529 : BitVec 32) (k0_hw20 : k0_chk20 v516 v529), (k0_t18_loop v516 v529).OK := fun v516 v529 k0_hw20 => k0_hw20.2.2.1
theorem k0_off20_inb : ∀ (v516 : BitVec 32) (v529 : BitVec 32) (k0_hw20 : k0_chk20 v516 v529) (k0_t18 : Fin (k0_t18_loop v516 v529).trips), ∀ (r : Fin 4), ∀ a, (k0_off20 v516 v529 k0_t18 (BitVec.ofNat 32 (16 * r.val))) a + S16.size a ≤ S65536.size a := fun v516 v529 k0_hw20 k0_t18 r => k0_hw20.2.2.2 k0_t18 r

@[reducible] def k0_t19_loop (v529 : BitVec 32) (v542 : BitVec 32) : Scf.Loop 32 :=
  let v543 : BitVec 32 := Scalar.subi v542 v529
  let c1_i32_142 : BitVec 32 := 1#32
  let v545 : BitVec 32 := Scalar.divsi v543 c1_i32_142
  let v546 : BitVec 32 := Scalar.muli v545 c1_i32_142
  let v547 : BitVec 32 := Scalar.addi v529 v546
  let c1_i32_143 : BitVec 32 := 1#32
  ⟨v529, v547, c1_i32_143⟩

def k0_off21 (v529 : BitVec 32) (v542 : BitVec 32) (k0_t19 : Fin (k0_t19_loop v529 v542).trips) (c0_i32_167 : BitVec 32) : Fin 1 → Nat :=
  let c1_i32_143 : BitVec 32 := 1#32
  let arg11 : BitVec 32 := Scf.iv v529 c1_i32_143 k0_t19
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t20_loop (v529 : BitVec 32) (v542 : BitVec 32) : Scf.Loop 32 :=
  let v543 : BitVec 32 := Scalar.subi v542 v529
  let c1_i32_142 : BitVec 32 := 1#32
  let v545 : BitVec 32 := Scalar.divsi v543 c1_i32_142
  let v546 : BitVec 32 := Scalar.muli v545 c1_i32_142
  let v547 : BitVec 32 := Scalar.addi v529 v546
  let v544 : BitVec 32 := Scalar.addi v529 v543
  let c1_i32_144 : BitVec 32 := 1#32
  ⟨v547, v544, c1_i32_144⟩
def k0_off22 (v529 : BitVec 32) (v542 : BitVec 32) (k0_t20 : Fin (k0_t20_loop v529 v542).trips) (c0_i32_167 : BitVec 32) : Fin 1 → Nat :=
  let v543 : BitVec 32 := Scalar.subi v542 v529
  let c1_i32_142 : BitVec 32 := 1#32
  let v545 : BitVec 32 := Scalar.divsi v543 c1_i32_142
  let v546 : BitVec 32 := Scalar.muli v545 c1_i32_142
  let v547 : BitVec 32 := Scalar.addi v529 v546
  let c1_i32_144 : BitVec 32 := 1#32
  let arg11 : BitVec 32 := Scf.iv v547 c1_i32_144 k0_t20
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk21 (v529 : BitVec 32) (v542 : BitVec 32) : Prop :=
  ((k0_t19_loop v529 v542).OK) ∧
  (∀ k0_t19 : Fin (k0_t19_loop v529 v542).trips, ∀ (r : Fin 4), ∀ a, (k0_off21 v529 v542 k0_t19 (BitVec.ofNat 32 (16 * r.val))) a + S16.size a ≤ S65536.size a) ∧
  ((k0_t20_loop v529 v542).OK) ∧
  (∀ k0_t20 : Fin (k0_t20_loop v529 v542).trips, ∀ (r : Fin 4), ∀ a, (k0_off22 v529 v542 k0_t20 (BitVec.ofNat 32 (16 * r.val))) a + S16.size a ≤ S65536.size a)
theorem k0_t19_ok : ∀ (v529 : BitVec 32) (v542 : BitVec 32) (k0_hw21 : k0_chk21 v529 v542), (k0_t19_loop v529 v542).OK := fun v529 v542 k0_hw21 => k0_hw21.1
theorem k0_off21_inb : ∀ (v529 : BitVec 32) (v542 : BitVec 32) (k0_hw21 : k0_chk21 v529 v542) (k0_t19 : Fin (k0_t19_loop v529 v542).trips), ∀ (r : Fin 4), ∀ a, (k0_off21 v529 v542 k0_t19 (BitVec.ofNat 32 (16 * r.val))) a + S16.size a ≤ S65536.size a := fun v529 v542 k0_hw21 k0_t19 r => k0_hw21.2.1 k0_t19 r
theorem k0_t20_ok : ∀ (v529 : BitVec 32) (v542 : BitVec 32) (k0_hw21 : k0_chk21 v529 v542), (k0_t20_loop v529 v542).OK := fun v529 v542 k0_hw21 => k0_hw21.2.2.1
theorem k0_off22_inb : ∀ (v529 : BitVec 32) (v542 : BitVec 32) (k0_hw21 : k0_chk21 v529 v542) (k0_t20 : Fin (k0_t20_loop v529 v542).trips), ∀ (r : Fin 4), ∀ a, (k0_off22 v529 v542 k0_t20 (BitVec.ofNat 32 (16 * r.val))) a + S16.size a ≤ S65536.size a := fun v529 v542 k0_hw21 k0_t20 r => k0_hw21.2.2.2 k0_t20 r

@[reducible] def k0_t21_loop (v542 : BitVec 32) (v555 : BitVec 32) : Scf.Loop 32 :=
  let v556 : BitVec 32 := Scalar.subi v555 v542
  let c1_i32_145 : BitVec 32 := 1#32
  let v558 : BitVec 32 := Scalar.divsi v556 c1_i32_145
  let v559 : BitVec 32 := Scalar.muli v558 c1_i32_145
  let v560 : BitVec 32 := Scalar.addi v542 v559
  let c1_i32_146 : BitVec 32 := 1#32
  ⟨v542, v560, c1_i32_146⟩

def k0_off23 (v542 : BitVec 32) (v555 : BitVec 32) (k0_t21 : Fin (k0_t21_loop v542 v555).trips) (c0_i32_167 : BitVec 32) : Fin 1 → Nat :=
  let c1_i32_146 : BitVec 32 := 1#32
  let arg11 : BitVec 32 := Scf.iv v542 c1_i32_146 k0_t21
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t22_loop (v542 : BitVec 32) (v555 : BitVec 32) : Scf.Loop 32 :=
  let v556 : BitVec 32 := Scalar.subi v555 v542
  let c1_i32_145 : BitVec 32 := 1#32
  let v558 : BitVec 32 := Scalar.divsi v556 c1_i32_145
  let v559 : BitVec 32 := Scalar.muli v558 c1_i32_145
  let v560 : BitVec 32 := Scalar.addi v542 v559
  let v557 : BitVec 32 := Scalar.addi v542 v556
  let c1_i32_147 : BitVec 32 := 1#32
  ⟨v560, v557, c1_i32_147⟩
def k0_off24 (v542 : BitVec 32) (v555 : BitVec 32) (k0_t22 : Fin (k0_t22_loop v542 v555).trips) (c0_i32_167 : BitVec 32) : Fin 1 → Nat :=
  let v556 : BitVec 32 := Scalar.subi v555 v542
  let c1_i32_145 : BitVec 32 := 1#32
  let v558 : BitVec 32 := Scalar.divsi v556 c1_i32_145
  let v559 : BitVec 32 := Scalar.muli v558 c1_i32_145
  let v560 : BitVec 32 := Scalar.addi v542 v559
  let c1_i32_147 : BitVec 32 := 1#32
  let arg11 : BitVec 32 := Scf.iv v560 c1_i32_147 k0_t22
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk22 (v542 : BitVec 32) (v555 : BitVec 32) : Prop :=
  ((k0_t21_loop v542 v555).OK) ∧
  (∀ k0_t21 : Fin (k0_t21_loop v542 v555).trips, ∀ (r : Fin 4), ∀ a, (k0_off23 v542 v555 k0_t21 (BitVec.ofNat 32 (16 * r.val))) a + S16.size a ≤ S65536.size a) ∧
  ((k0_t22_loop v542 v555).OK) ∧
  (∀ k0_t22 : Fin (k0_t22_loop v542 v555).trips, ∀ (r : Fin 4), ∀ a, (k0_off24 v542 v555 k0_t22 (BitVec.ofNat 32 (16 * r.val))) a + S16.size a ≤ S65536.size a)
theorem k0_t21_ok : ∀ (v542 : BitVec 32) (v555 : BitVec 32) (k0_hw22 : k0_chk22 v542 v555), (k0_t21_loop v542 v555).OK := fun v542 v555 k0_hw22 => k0_hw22.1
theorem k0_off23_inb : ∀ (v542 : BitVec 32) (v555 : BitVec 32) (k0_hw22 : k0_chk22 v542 v555) (k0_t21 : Fin (k0_t21_loop v542 v555).trips), ∀ (r : Fin 4), ∀ a, (k0_off23 v542 v555 k0_t21 (BitVec.ofNat 32 (16 * r.val))) a + S16.size a ≤ S65536.size a := fun v542 v555 k0_hw22 k0_t21 r => k0_hw22.2.1 k0_t21 r
theorem k0_t22_ok : ∀ (v542 : BitVec 32) (v555 : BitVec 32) (k0_hw22 : k0_chk22 v542 v555), (k0_t22_loop v542 v555).OK := fun v542 v555 k0_hw22 => k0_hw22.2.2.1
theorem k0_off24_inb : ∀ (v542 : BitVec 32) (v555 : BitVec 32) (k0_hw22 : k0_chk22 v542 v555) (k0_t22 : Fin (k0_t22_loop v542 v555).trips), ∀ (r : Fin 4), ∀ a, (k0_off24 v542 v555 k0_t22 (BitVec.ofNat 32 (16 * r.val))) a + S16.size a ≤ S65536.size a := fun v542 v555 k0_hw22 k0_t22 r => k0_hw22.2.2.2 k0_t22 r

@[reducible] def k0_t23_loop (v555 : BitVec 32) (v568 : BitVec 32) : Scf.Loop 32 :=
  let v569 : BitVec 32 := Scalar.subi v568 v555
  let c1_i32_148 : BitVec 32 := 1#32
  let v571 : BitVec 32 := Scalar.divsi v569 c1_i32_148
  let v572 : BitVec 32 := Scalar.muli v571 c1_i32_148
  let v573 : BitVec 32 := Scalar.addi v555 v572
  let c1_i32_149 : BitVec 32 := 1#32
  ⟨v555, v573, c1_i32_149⟩

def k0_off25 (v555 : BitVec 32) (v568 : BitVec 32) (k0_t23 : Fin (k0_t23_loop v555 v568).trips) (c0_i32_167 : BitVec 32) : Fin 1 → Nat :=
  let c1_i32_149 : BitVec 32 := 1#32
  let arg11 : BitVec 32 := Scf.iv v555 c1_i32_149 k0_t23
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t24_loop (v555 : BitVec 32) (v568 : BitVec 32) : Scf.Loop 32 :=
  let v569 : BitVec 32 := Scalar.subi v568 v555
  let c1_i32_148 : BitVec 32 := 1#32
  let v571 : BitVec 32 := Scalar.divsi v569 c1_i32_148
  let v572 : BitVec 32 := Scalar.muli v571 c1_i32_148
  let v573 : BitVec 32 := Scalar.addi v555 v572
  let v570 : BitVec 32 := Scalar.addi v555 v569
  let c1_i32_150 : BitVec 32 := 1#32
  ⟨v573, v570, c1_i32_150⟩
def k0_off26 (v555 : BitVec 32) (v568 : BitVec 32) (k0_t24 : Fin (k0_t24_loop v555 v568).trips) (c0_i32_167 : BitVec 32) : Fin 1 → Nat :=
  let v569 : BitVec 32 := Scalar.subi v568 v555
  let c1_i32_148 : BitVec 32 := 1#32
  let v571 : BitVec 32 := Scalar.divsi v569 c1_i32_148
  let v572 : BitVec 32 := Scalar.muli v571 c1_i32_148
  let v573 : BitVec 32 := Scalar.addi v555 v572
  let c1_i32_150 : BitVec 32 := 1#32
  let arg11 : BitVec 32 := Scf.iv v573 c1_i32_150 k0_t24
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk23 (v555 : BitVec 32) (v568 : BitVec 32) : Prop :=
  ((k0_t23_loop v555 v568).OK) ∧
  (∀ k0_t23 : Fin (k0_t23_loop v555 v568).trips, ∀ (r : Fin 4), ∀ a, (k0_off25 v555 v568 k0_t23 (BitVec.ofNat 32 (16 * r.val))) a + S16.size a ≤ S65536.size a) ∧
  ((k0_t24_loop v555 v568).OK) ∧
  (∀ k0_t24 : Fin (k0_t24_loop v555 v568).trips, ∀ (r : Fin 4), ∀ a, (k0_off26 v555 v568 k0_t24 (BitVec.ofNat 32 (16 * r.val))) a + S16.size a ≤ S65536.size a)
theorem k0_t23_ok : ∀ (v555 : BitVec 32) (v568 : BitVec 32) (k0_hw23 : k0_chk23 v555 v568), (k0_t23_loop v555 v568).OK := fun v555 v568 k0_hw23 => k0_hw23.1
theorem k0_off25_inb : ∀ (v555 : BitVec 32) (v568 : BitVec 32) (k0_hw23 : k0_chk23 v555 v568) (k0_t23 : Fin (k0_t23_loop v555 v568).trips), ∀ (r : Fin 4), ∀ a, (k0_off25 v555 v568 k0_t23 (BitVec.ofNat 32 (16 * r.val))) a + S16.size a ≤ S65536.size a := fun v555 v568 k0_hw23 k0_t23 r => k0_hw23.2.1 k0_t23 r
theorem k0_t24_ok : ∀ (v555 : BitVec 32) (v568 : BitVec 32) (k0_hw23 : k0_chk23 v555 v568), (k0_t24_loop v555 v568).OK := fun v555 v568 k0_hw23 => k0_hw23.2.2.1
theorem k0_off26_inb : ∀ (v555 : BitVec 32) (v568 : BitVec 32) (k0_hw23 : k0_chk23 v555 v568) (k0_t24 : Fin (k0_t24_loop v555 v568).trips), ∀ (r : Fin 4), ∀ a, (k0_off26 v555 v568 k0_t24 (BitVec.ofNat 32 (16 * r.val))) a + S16.size a ≤ S65536.size a := fun v555 v568 k0_hw23 k0_t24 r => k0_hw23.2.2.2 k0_t24 r

@[reducible] def k0_t25_loop (v568 : BitVec 32) (v581 : BitVec 32) : Scf.Loop 32 :=
  let v582 : BitVec 32 := Scalar.subi v581 v568
  let c1_i32_151 : BitVec 32 := 1#32
  let v584 : BitVec 32 := Scalar.divsi v582 c1_i32_151
  let v585 : BitVec 32 := Scalar.muli v584 c1_i32_151
  let v586 : BitVec 32 := Scalar.addi v568 v585
  let c1_i32_152 : BitVec 32 := 1#32
  ⟨v568, v586, c1_i32_152⟩

def k0_off27 (v568 : BitVec 32) (v581 : BitVec 32) (k0_t25 : Fin (k0_t25_loop v568 v581).trips) (c0_i32_167 : BitVec 32) : Fin 1 → Nat :=
  let c1_i32_152 : BitVec 32 := 1#32
  let arg11 : BitVec 32 := Scf.iv v568 c1_i32_152 k0_t25
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t26_loop (v568 : BitVec 32) (v581 : BitVec 32) : Scf.Loop 32 :=
  let v582 : BitVec 32 := Scalar.subi v581 v568
  let c1_i32_151 : BitVec 32 := 1#32
  let v584 : BitVec 32 := Scalar.divsi v582 c1_i32_151
  let v585 : BitVec 32 := Scalar.muli v584 c1_i32_151
  let v586 : BitVec 32 := Scalar.addi v568 v585
  let v583 : BitVec 32 := Scalar.addi v568 v582
  let c1_i32_153 : BitVec 32 := 1#32
  ⟨v586, v583, c1_i32_153⟩
def k0_off28 (v568 : BitVec 32) (v581 : BitVec 32) (k0_t26 : Fin (k0_t26_loop v568 v581).trips) (c0_i32_167 : BitVec 32) : Fin 1 → Nat :=
  let v582 : BitVec 32 := Scalar.subi v581 v568
  let c1_i32_151 : BitVec 32 := 1#32
  let v584 : BitVec 32 := Scalar.divsi v582 c1_i32_151
  let v585 : BitVec 32 := Scalar.muli v584 c1_i32_151
  let v586 : BitVec 32 := Scalar.addi v568 v585
  let c1_i32_153 : BitVec 32 := 1#32
  let arg11 : BitVec 32 := Scf.iv v586 c1_i32_153 k0_t26
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk24 (v568 : BitVec 32) (v581 : BitVec 32) : Prop :=
  ((k0_t25_loop v568 v581).OK) ∧
  (∀ k0_t25 : Fin (k0_t25_loop v568 v581).trips, ∀ (r : Fin 4), ∀ a, (k0_off27 v568 v581 k0_t25 (BitVec.ofNat 32 (16 * r.val))) a + S16.size a ≤ S65536.size a) ∧
  ((k0_t26_loop v568 v581).OK) ∧
  (∀ k0_t26 : Fin (k0_t26_loop v568 v581).trips, ∀ (r : Fin 4), ∀ a, (k0_off28 v568 v581 k0_t26 (BitVec.ofNat 32 (16 * r.val))) a + S16.size a ≤ S65536.size a)
theorem k0_t25_ok : ∀ (v568 : BitVec 32) (v581 : BitVec 32) (k0_hw24 : k0_chk24 v568 v581), (k0_t25_loop v568 v581).OK := fun v568 v581 k0_hw24 => k0_hw24.1
theorem k0_off27_inb : ∀ (v568 : BitVec 32) (v581 : BitVec 32) (k0_hw24 : k0_chk24 v568 v581) (k0_t25 : Fin (k0_t25_loop v568 v581).trips), ∀ (r : Fin 4), ∀ a, (k0_off27 v568 v581 k0_t25 (BitVec.ofNat 32 (16 * r.val))) a + S16.size a ≤ S65536.size a := fun v568 v581 k0_hw24 k0_t25 r => k0_hw24.2.1 k0_t25 r
theorem k0_t26_ok : ∀ (v568 : BitVec 32) (v581 : BitVec 32) (k0_hw24 : k0_chk24 v568 v581), (k0_t26_loop v568 v581).OK := fun v568 v581 k0_hw24 => k0_hw24.2.2.1
theorem k0_off28_inb : ∀ (v568 : BitVec 32) (v581 : BitVec 32) (k0_hw24 : k0_chk24 v568 v581) (k0_t26 : Fin (k0_t26_loop v568 v581).trips), ∀ (r : Fin 4), ∀ a, (k0_off28 v568 v581 k0_t26 (BitVec.ofNat 32 (16 * r.val))) a + S16.size a ≤ S65536.size a := fun v568 v581 k0_hw24 k0_t26 r => k0_hw24.2.2.2 k0_t26 r

@[reducible] def k0_t27_loop (v581 : BitVec 32) (v594 : BitVec 32) : Scf.Loop 32 :=
  let v595 : BitVec 32 := Scalar.subi v594 v581
  let c1_i32_154 : BitVec 32 := 1#32
  let v597 : BitVec 32 := Scalar.divsi v595 c1_i32_154
  let v598 : BitVec 32 := Scalar.muli v597 c1_i32_154
  let v599 : BitVec 32 := Scalar.addi v581 v598
  let c1_i32_155 : BitVec 32 := 1#32
  ⟨v581, v599, c1_i32_155⟩

def k0_off29 (v581 : BitVec 32) (v594 : BitVec 32) (k0_t27 : Fin (k0_t27_loop v581 v594).trips) (c0_i32_167 : BitVec 32) : Fin 1 → Nat :=
  let c1_i32_155 : BitVec 32 := 1#32
  let arg11 : BitVec 32 := Scf.iv v581 c1_i32_155 k0_t27
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t28_loop (v581 : BitVec 32) (v594 : BitVec 32) : Scf.Loop 32 :=
  let v595 : BitVec 32 := Scalar.subi v594 v581
  let c1_i32_154 : BitVec 32 := 1#32
  let v597 : BitVec 32 := Scalar.divsi v595 c1_i32_154
  let v598 : BitVec 32 := Scalar.muli v597 c1_i32_154
  let v599 : BitVec 32 := Scalar.addi v581 v598
  let v596 : BitVec 32 := Scalar.addi v581 v595
  let c1_i32_156 : BitVec 32 := 1#32
  ⟨v599, v596, c1_i32_156⟩
def k0_off30 (v581 : BitVec 32) (v594 : BitVec 32) (k0_t28 : Fin (k0_t28_loop v581 v594).trips) (c0_i32_167 : BitVec 32) : Fin 1 → Nat :=
  let v595 : BitVec 32 := Scalar.subi v594 v581
  let c1_i32_154 : BitVec 32 := 1#32
  let v597 : BitVec 32 := Scalar.divsi v595 c1_i32_154
  let v598 : BitVec 32 := Scalar.muli v597 c1_i32_154
  let v599 : BitVec 32 := Scalar.addi v581 v598
  let c1_i32_156 : BitVec 32 := 1#32
  let arg11 : BitVec 32 := Scf.iv v599 c1_i32_156 k0_t28
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk25 (v581 : BitVec 32) (v594 : BitVec 32) : Prop :=
  ((k0_t27_loop v581 v594).OK) ∧
  (∀ k0_t27 : Fin (k0_t27_loop v581 v594).trips, ∀ (r : Fin 4), ∀ a, (k0_off29 v581 v594 k0_t27 (BitVec.ofNat 32 (16 * r.val))) a + S16.size a ≤ S65536.size a) ∧
  ((k0_t28_loop v581 v594).OK) ∧
  (∀ k0_t28 : Fin (k0_t28_loop v581 v594).trips, ∀ (r : Fin 4), ∀ a, (k0_off30 v581 v594 k0_t28 (BitVec.ofNat 32 (16 * r.val))) a + S16.size a ≤ S65536.size a)
theorem k0_t27_ok : ∀ (v581 : BitVec 32) (v594 : BitVec 32) (k0_hw25 : k0_chk25 v581 v594), (k0_t27_loop v581 v594).OK := fun v581 v594 k0_hw25 => k0_hw25.1
theorem k0_off29_inb : ∀ (v581 : BitVec 32) (v594 : BitVec 32) (k0_hw25 : k0_chk25 v581 v594) (k0_t27 : Fin (k0_t27_loop v581 v594).trips), ∀ (r : Fin 4), ∀ a, (k0_off29 v581 v594 k0_t27 (BitVec.ofNat 32 (16 * r.val))) a + S16.size a ≤ S65536.size a := fun v581 v594 k0_hw25 k0_t27 r => k0_hw25.2.1 k0_t27 r
theorem k0_t28_ok : ∀ (v581 : BitVec 32) (v594 : BitVec 32) (k0_hw25 : k0_chk25 v581 v594), (k0_t28_loop v581 v594).OK := fun v581 v594 k0_hw25 => k0_hw25.2.2.1
theorem k0_off30_inb : ∀ (v581 : BitVec 32) (v594 : BitVec 32) (k0_hw25 : k0_chk25 v581 v594) (k0_t28 : Fin (k0_t28_loop v581 v594).trips), ∀ (r : Fin 4), ∀ a, (k0_off30 v581 v594 k0_t28 (BitVec.ofNat 32 (16 * r.val))) a + S16.size a ≤ S65536.size a := fun v581 v594 k0_hw25 k0_t28 r => k0_hw25.2.2.2 k0_t28 r

@[reducible] def k0_t29_loop (v594 : BitVec 32) (v607 : BitVec 32) : Scf.Loop 32 :=
  let v608 : BitVec 32 := Scalar.subi v607 v594
  let c1_i32_157 : BitVec 32 := 1#32
  let v610 : BitVec 32 := Scalar.divsi v608 c1_i32_157
  let v611 : BitVec 32 := Scalar.muli v610 c1_i32_157
  let v612 : BitVec 32 := Scalar.addi v594 v611
  let c1_i32_158 : BitVec 32 := 1#32
  ⟨v594, v612, c1_i32_158⟩

def k0_off31 (v594 : BitVec 32) (v607 : BitVec 32) (k0_t29 : Fin (k0_t29_loop v594 v607).trips) (c0_i32_167 : BitVec 32) : Fin 1 → Nat :=
  let c1_i32_158 : BitVec 32 := 1#32
  let arg11 : BitVec 32 := Scf.iv v594 c1_i32_158 k0_t29
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t30_loop (v594 : BitVec 32) (v607 : BitVec 32) : Scf.Loop 32 :=
  let v608 : BitVec 32 := Scalar.subi v607 v594
  let c1_i32_157 : BitVec 32 := 1#32
  let v610 : BitVec 32 := Scalar.divsi v608 c1_i32_157
  let v611 : BitVec 32 := Scalar.muli v610 c1_i32_157
  let v612 : BitVec 32 := Scalar.addi v594 v611
  let v609 : BitVec 32 := Scalar.addi v594 v608
  let c1_i32_159 : BitVec 32 := 1#32
  ⟨v612, v609, c1_i32_159⟩
def k0_off32 (v594 : BitVec 32) (v607 : BitVec 32) (k0_t30 : Fin (k0_t30_loop v594 v607).trips) (c0_i32_167 : BitVec 32) : Fin 1 → Nat :=
  let v608 : BitVec 32 := Scalar.subi v607 v594
  let c1_i32_157 : BitVec 32 := 1#32
  let v610 : BitVec 32 := Scalar.divsi v608 c1_i32_157
  let v611 : BitVec 32 := Scalar.muli v610 c1_i32_157
  let v612 : BitVec 32 := Scalar.addi v594 v611
  let c1_i32_159 : BitVec 32 := 1#32
  let arg11 : BitVec 32 := Scf.iv v612 c1_i32_159 k0_t30
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t31_loop (v607 : BitVec 32) : Scf.Loop 32 :=
  let c1024_i32_160 : BitVec 32 := 1024#32
  let v619 : BitVec 32 := Scalar.subi c1024_i32_160 v607
  let c1_i32_161 : BitVec 32 := 1#32
  let v621 : BitVec 32 := Scalar.divsi v619 c1_i32_161
  let v622 : BitVec 32 := Scalar.muli v621 c1_i32_161
  let v623 : BitVec 32 := Scalar.addi v607 v622
  let c1_i32_162 : BitVec 32 := 1#32
  ⟨v607, v623, c1_i32_162⟩
def k0_off33 (v607 : BitVec 32) (k0_t31 : Fin (k0_t31_loop v607).trips) (c0_i32_167 : BitVec 32) : Fin 1 → Nat :=
  let c1_i32_162 : BitVec 32 := 1#32
  let arg11 : BitVec 32 := Scf.iv v607 c1_i32_162 k0_t31
  let c64_i32_166 : BitVec 32 := 64#32
  let v633 : BitVec 32 := Scalar.muli arg11 c64_i32_166
  let v634 : BitVec 32 := Scalar.addi v633 c0_i32_167
  let v635 : Index := Scalar.indexCast v634
  ![v635.toNat]
@[reducible] def k0_t32_loop (v607 : BitVec 32) : Scf.Loop 32 :=
  let c1024_i32_160 : BitVec 32 := 1024#32
  let v619 : BitVec 32 := Scalar.subi c1024_i32_160 v607
  let c1_i32_161 : BitVec 32 := 1#32
  let v621 : BitVec 32 := Scalar.divsi v619 c1_i32_161
  let v622 : BitVec 32 := Scalar.muli v621 c1_i32_161
  let v623 : BitVec 32 := Scalar.addi v607 v622
  let v620 : BitVec 32 := Scalar.addi v607 v619
  let c1_i32_163 : BitVec 32 := 1#32
  ⟨v623, v620, c1_i32_163⟩
def k0_off34 (v607 : BitVec 32) (k0_t32 : Fin (k0_t32_loop v607).trips) (c0_i32_167 : BitVec 32) : Fin 1 → Nat :=
  let c1024_i32_160 : BitVec 32 := 1024#32
  let v619 : BitVec 32 := Scalar.subi c1024_i32_160 v607
  let c1_i32_161 : BitVec 32 := 1#32
  let v621 : BitVec 32 := Scalar.divsi v619 c1_i32_161
  let v622 : BitVec 32 := Scalar.muli v621 c1_i32_161
  let v623 : BitVec 32 := Scalar.addi v607 v622
  let c1_i32_163 : BitVec 32 := 1#32
  let arg11 : BitVec 32 := Scf.iv v623 c1_i32_163 k0_t32
  let c64_i32_166 : BitVec 32 := 64#32
  let v633 : BitVec 32 := Scalar.muli arg11 c64_i32_166
  let v634 : BitVec 32 := Scalar.addi v633 c0_i32_167
  let v635 : Index := Scalar.indexCast v634
  ![v635.toNat]

def k0_chk26 (v594 : BitVec 32) (v607 : BitVec 32) : Prop :=
  ((k0_t29_loop v594 v607).OK) ∧
  (∀ k0_t29 : Fin (k0_t29_loop v594 v607).trips, ∀ (r : Fin 4), ∀ a, (k0_off31 v594 v607 k0_t29 (BitVec.ofNat 32 (16 * r.val))) a + S16.size a ≤ S65536.size a) ∧
  ((k0_t30_loop v594 v607).OK) ∧
  (∀ k0_t30 : Fin (k0_t30_loop v594 v607).trips, ∀ (r : Fin 4), ∀ a, (k0_off32 v594 v607 k0_t30 (BitVec.ofNat 32 (16 * r.val))) a + S16.size a ≤ S65536.size a) ∧
  ((k0_t31_loop v607).OK) ∧
  (∀ k0_t31 : Fin (k0_t31_loop v607).trips, ∀ (r : Fin 4), ∀ a, (k0_off33 v607 k0_t31 (BitVec.ofNat 32 (16 * r.val))) a + S16.size a ≤ S65536.size a) ∧
  ((k0_t32_loop v607).OK) ∧
  (∀ k0_t32 : Fin (k0_t32_loop v607).trips, ∀ (r : Fin 4), ∀ a, (k0_off34 v607 k0_t32 (BitVec.ofNat 32 (16 * r.val))) a + S16.size a ≤ S65536.size a)
theorem k0_t29_ok : ∀ (v594 : BitVec 32) (v607 : BitVec 32) (k0_hw26 : k0_chk26 v594 v607), (k0_t29_loop v594 v607).OK := fun v594 v607 k0_hw26 => k0_hw26.1
theorem k0_off31_inb : ∀ (v594 : BitVec 32) (v607 : BitVec 32) (k0_hw26 : k0_chk26 v594 v607) (k0_t29 : Fin (k0_t29_loop v594 v607).trips), ∀ (r : Fin 4), ∀ a, (k0_off31 v594 v607 k0_t29 (BitVec.ofNat 32 (16 * r.val))) a + S16.size a ≤ S65536.size a := fun v594 v607 k0_hw26 k0_t29 r => k0_hw26.2.1 k0_t29 r
theorem k0_t30_ok : ∀ (v594 : BitVec 32) (v607 : BitVec 32) (k0_hw26 : k0_chk26 v594 v607), (k0_t30_loop v594 v607).OK := fun v594 v607 k0_hw26 => k0_hw26.2.2.1
theorem k0_off32_inb : ∀ (v594 : BitVec 32) (v607 : BitVec 32) (k0_hw26 : k0_chk26 v594 v607) (k0_t30 : Fin (k0_t30_loop v594 v607).trips), ∀ (r : Fin 4), ∀ a, (k0_off32 v594 v607 k0_t30 (BitVec.ofNat 32 (16 * r.val))) a + S16.size a ≤ S65536.size a := fun v594 v607 k0_hw26 k0_t30 r => k0_hw26.2.2.2.1 k0_t30 r
theorem k0_t31_ok : ∀ (v594 : BitVec 32) (v607 : BitVec 32) (k0_hw26 : k0_chk26 v594 v607), (k0_t31_loop v607).OK := fun v594 v607 k0_hw26 => k0_hw26.2.2.2.2.1
theorem k0_off33_inb : ∀ (v594 : BitVec 32) (v607 : BitVec 32) (k0_hw26 : k0_chk26 v594 v607) (k0_t31 : Fin (k0_t31_loop v607).trips), ∀ (r : Fin 4), ∀ a, (k0_off33 v607 k0_t31 (BitVec.ofNat 32 (16 * r.val))) a + S16.size a ≤ S65536.size a := fun v594 v607 k0_hw26 k0_t31 r => k0_hw26.2.2.2.2.2.1 k0_t31 r
theorem k0_t32_ok : ∀ (v594 : BitVec 32) (v607 : BitVec 32) (k0_hw26 : k0_chk26 v594 v607), (k0_t32_loop v607).OK := fun v594 v607 k0_hw26 => k0_hw26.2.2.2.2.2.2.1
theorem k0_off34_inb : ∀ (v594 : BitVec 32) (v607 : BitVec 32) (k0_hw26 : k0_chk26 v594 v607) (k0_t32 : Fin (k0_t32_loop v607).trips), ∀ (r : Fin 4), ∀ a, (k0_off34 v607 k0_t32 (BitVec.ofNat 32 (16 * r.val))) a + S16.size a ≤ S65536.size a := fun v594 v607 k0_hw26 k0_t32 r => k0_hw26.2.2.2.2.2.2.2 k0_t32 r

def k0_off35 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v630 : BitVec 32 := Scalar.muli v1 c16_i32
  let c64_i32_164 : BitVec 32 := 64#32
  let v631 : BitVec 32 := Scalar.muli v630 c64_i32_164
  ![v631.toNat]
def k0_off36 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_165 : BitVec 32 := 16#32
  let v632 : BitVec 32 := Scalar.muli v1 c16_i32_165
  ![v632.toNat]
abbrev grid1 : Pipeline.Grid := .none

abbrev stage1_0 : Fin 1 → Memref sig .tc .vmem S32x16x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x64 : Shape := ⟨2, ![32768, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S32768 : Shape := ⟨1, ![32768]⟩
abbrev S_ : Shape := ⟨0, ![]⟩
abbrev S16x64 : Shape := ⟨2, ![16, 64]⟩
abbrev S32768x1 : Shape := ⟨2, ![32768, 1]⟩
abbrev S16 : Shape := ⟨1, ![16]⟩
abbrev S16x1 : Shape := ⟨2, ![16, 1]⟩
abbrev S1x64 : Shape := ⟨2, ![1, 64]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S32768, .i32⟩
  | .hbm, ⟨6, _⟩ => ⟨S_, .f32⟩
  | .hbm, ⟨7, _⟩ => ⟨S16x64, .f32⟩
  | .hbm, ⟨8, _⟩ => ⟨S32768x1, .i32⟩
  | .hbm, ⟨9, _⟩ => ⟨S16x64, .f32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S16, .f32⟩
  | .hbm, ⟨14, _⟩ => ⟨S32768x1, .i32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16x1, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S1x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x1, .f32⟩
  | .hbm, ⟨30, _⟩ => ⟨S1x1, .f32⟩
  | .hbm, ⟨31, _⟩ => ⟨S16x1, .f32⟩
  | .hbm, ⟨32, _⟩ => ⟨S16x1, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Bisect.lean ====
/- The lane-parallel binary search of a tile's segment ids: the vector of words the kernel computes, and what its
   last state says of the ids. Nothing here names a program: both printed programs use it. -/
module

public import Idealize.ShloMosaic.PureOps
public import Idealize.ShloMosaic.Lib.Decide

@[expose] public section

noncomputable section

namespace Cert.Bisect

open Idealize.ShloMosaic

/-- Sixteen lanes. -/
abbrev V16 : Shape := ⟨1, ![16]⟩
/-- A tile's 1024 ids. -/
abbrev V1024 : Shape := ⟨1, ![1024]⟩

/-- One is below thirty-two. -/
theorem lt_1_32 : 1 < 32 := by decide

/-! ## The vectors of one round, as the kernel spells them -/

/-- The word every lane gets from comparing 2 with 0: the sign of the divisor. -/
def sgn2 : BitVec 32 := Scalar.subi (Scalar.extui (Scalar.cmpi .sgt 2#32 0#32)) (Scalar.extui (Scalar.cmpi .slt 2#32 0#32))
/-- The sum halved, rounded toward zero. -/
def halfV (s : IVec V16 32) : IVec V16 32 := divsi s (broadcast V16 2#32)
/-- The sign of the sum. -/
def sgnV (s : IVec V16 32) : IVec V16 32 :=
  subi (extui 32 (cmpi .sgt s (broadcast V16 0#32)) lt_1_32) (extui 32 (cmpi .slt s (broadcast V16 0#32)) lt_1_32)
/-- Whether rounding toward zero went up: signs differ and the remainder is not zero. -/
def adjV (s : IVec V16 32) : IVec V16 1 :=
  andi (cmpi .ne (sgnV s) (broadcast V16 sgn2)) (cmpi .ne (remsi s (broadcast V16 2#32)) (broadcast V16 0#32))
/-- The probe: the halved sum rounded down, at most 1023. -/
def probeV (s : IVec V16 32) : IVec V16 32 :=
  minsi (select (adjV s) (subi (halfV s) (broadcast V16 1#32)) (halfV s)) (broadcast V16 1023#32)
/-- The probe of an interval. -/
def midV (lo hi : IVec V16 32) : IVec V16 32 := probeV (addi lo hi)
/-- The lane whose interval is not empty. -/
def belV (lo hi : IVec V16 32) : IVec V16 1 := cmpi .slt lo hi
/-- The lane whose probed id is less than its key. -/
def ltV (k x : IVec V16 32) : IVec V16 1 := cmpi .slt x k
/-- The interval's new lower end. -/
def loV (b c : IVec V16 1) (m lo : IVec V16 32) : IVec V16 32 := select (andi b c) (addi m (broadcast V16 1#32)) lo
/-- The interval's new upper end. -/
def hiV (b c : IVec V16 1) (m hi : IVec V16 32) : IVec V16 32 := select (andi b (xori c (constantI V16 1 1#1))) m hi
/-- The keys: lane `s` looks for `s + 1`. -/
def keyV : IVec V16 32 := addi (iota .scVector V16 32 [0] (by decide)) (broadcast V16 1#32)
/-- Index `n` of the ids (the remainder changes nothing below 1024). -/
def ix (n : ℕ) : V1024.Idx := fun a => match a with | ⟨0, _⟩ => ⟨n % 1024, Nat.mod_lt n (by decide : 0 < 1024)⟩
/-- The ids at the probes. -/
def pick (ids : V1024.Idx → BitVec 32) (v : IVec V16 32) : IVec V16 32 := fun x => ids (ix (v x).toNat)

/-- The interval's ends after `n` rounds. -/
def st (ids : V1024.Idx → BitVec 32) : ℕ → IVec V16 32 × IVec V16 32
  | 0 => (broadcast V16 0#32, broadcast V16 1024#32)
  | n + 1 =>
    (loV (belV (st ids n).1 (st ids n).2) (ltV keyV (pick ids (midV (st ids n).1 (st ids n).2))) (midV (st ids n).1 (st ids n).2) (st ids n).1,
     hiV (belV (st ids n).1 (st ids n).2) (ltV keyV (pick ids (midV (st ids n).1 (st ids n).2))) (midV (st ids n).1 (st ids n).2) (st ids n).2)
/-- The lower ends after `n` rounds. -/
abbrev lo (ids : V1024.Idx → BitVec 32) (n : ℕ) : IVec V16 32 := (st ids n).1
/-- The upper ends after `n` rounds. -/
abbrev hi (ids : V1024.Idx → BitVec 32) (n : ℕ) : IVec V16 32 := (st ids n).2
/-- The probes of round `n`. -/
abbrev mid (ids : V1024.Idx → BitVec 32) (n : ℕ) : IVec V16 32 := midV (lo ids n) (hi ids n)
/-- The ids probed in round `n`. -/
abbrev got (ids : V1024.Idx → BitVec 32) (n : ℕ) : IVec V16 32 := pick ids (mid ids n)

/-! ## The same over natural numbers, one lane -/

/-- One round on one lane with key `k`, the ids `f`. -/
def stepN (f : ℕ → BitVec 32) (k : BitVec 32) (p : ℕ × ℕ) : ℕ × ℕ :=
  if p.1 < p.2 then
    if (f (min ((p.1 + p.2) / 2) 1023)).slt k then (min ((p.1 + p.2) / 2) 1023 + 1, p.2) else (p.1, min ((p.1 + p.2) / 2) 1023)
  else p
/-- The ends after `n` rounds. -/
def stN (f : ℕ → BitVec 32) (k : BitVec 32) : ℕ → ℕ × ℕ
  | 0 => (0, 1024)
  | n + 1 => stepN f k (stN f k n)

/-- The ends stay in order and inside, and the interval halves. -/
theorem stN_inv (f : ℕ → BitVec 32) (k : BitVec 32) (n : ℕ) :
    (stN f k n).1 ≤ (stN f k n).2 ∧ (stN f k n).2 ≤ 1024 ∧ (stN f k n).2 - (stN f k n).1 ≤ 1024 / 2 ^ n := by
  induction n with
  | zero => exact ⟨Nat.zero_le _, Nat.le_refl _, Nat.le_of_eq rfl⟩
  | succ n ih =>
    rw [pow_succ, ← Nat.div_div_eq_div_mul]
    generalize 1024 / 2 ^ n = w at *
    simp only [stN, stepN]
    generalize stN f k n = p at *
    obtain ⟨l, h⟩ := p
    simp only at *
    split
    · split <;> dsimp only <;> omega
    · dsimp only; omega

/-- After eleven rounds the interval is empty. -/
theorem stN_end (f : ℕ → BitVec 32) (k : BitVec 32) : (stN f k 11).1 = (stN f k 11).2 := by
  have h := stN_inv f k 11
  have h2 : 1024 / 2 ^ 11 = 0 := by decide
  omega

/-- Where the search ends: the number of ids below the key, for sorted ids. -/
def cut (f : ℕ → BitVec 32) (k : BitVec 32) : ℕ := (stN f k 11).1

/-- The number that the search finds is at most 1024. -/
theorem cut_le (f : ℕ → BitVec 32) (k : BitVec 32) : cut f k ≤ 1024 := by
  have := stN_inv f k 11; unfold cut; omega

/-- For sorted ids everything below the lower end is less than the key and nothing from the upper end on is. -/
theorem stN_sorted {f : ℕ → BitVec 32} (k : BitVec 32) (hs : ∀ i j, i ≤ j → j < 1024 → (f i).toInt ≤ (f j).toInt) (n : ℕ) :
    (∀ i, i < (stN f k n).1 → (f i).toInt < k.toInt) ∧ (∀ i, (stN f k n).2 ≤ i → i < 1024 → k.toInt ≤ (f i).toInt) := by
  induction n with
  | zero => exact ⟨fun i h => absurd h (Nat.not_lt_zero _), fun i h h' => absurd h' (Nat.not_lt.mpr h)⟩
  | succ n ih =>
    have hv := stN_inv f k n
    simp only [stN, stepN]
    generalize stN f k n = p at *
    obtain ⟨l, h⟩ := p
    simp only at *
    obtain ⟨ih1, ih2⟩ := ih
    split
    · rename_i hlt
      have hm : min ((l + h) / 2) 1023 = (l + h) / 2 := by omega
      rw [hm]
      split
      · rename_i hc
        rw [BitVec.slt_iff_toInt_lt] at hc
        refine ⟨fun i hi => lt_of_le_of_lt (hs i ((l + h) / 2) ?_ ?_) hc, ih2⟩
        · dsimp only at hi; omega
        · omega
      · rename_i hc
        rw [BitVec.slt_iff_toInt_lt, not_lt] at hc
        exact ⟨ih1, fun i hi hi' => hc.trans (hs _ i hi hi')⟩
    · exact ⟨ih1, ih2⟩

/-- For sorted ids the end of the search cuts them at the key. -/
theorem lt_cut_iff {f : ℕ → BitVec 32} (k : BitVec 32) (hs : ∀ i j, i ≤ j → j < 1024 → (f i).toInt ≤ (f j).toInt)
    {i : ℕ} (hi : i < 1024) : i < cut f k ↔ (f i).toInt < k.toInt := by
  have h := stN_sorted k hs 11
  refine ⟨h.1 i, fun h' => ?_⟩
  by_contra hn
  exact absurd (h.2 i (by rw [← stN_end]; unfold cut at hn; omega) hi) (not_le.mpr h')

/-! ## The lanes are the natural numbers -/

/-- A word made of a small number reads, signed, as that number. -/
theorem toInt_small {n : ℕ} (h : n ≤ 2048) : (BitVec.ofNat 32 n).toInt = n := by
  rw [BitVec.toInt_eq_toNat_cond, BitVec.toNat_ofNat, Nat.mod_eq_of_lt (by omega), if_pos (by omega)]
/-- A word made of a small number reads, unsigned, as that number. -/
theorem toNat_small {n : ℕ} (h : n ≤ 2048) : (BitVec.ofNat 32 n).toNat = n := by
  rw [BitVec.toNat_ofNat]; exact Nat.mod_eq_of_lt (by omega)

/-- The probe of one word. -/
def probe1 (s : BitVec 32) : BitVec 32 :=
  IntOp.minsi (Scalar.select (IntOp.andi (IntOp.cmpi .ne (IntOp.subi ((IntOp.cmpi .sgt s 0#32).setWidth 32) ((IntOp.cmpi .slt s 0#32).setWidth 32)) sgn2)
    (IntOp.cmpi .ne (IntOp.remsi .vector s 2#32) 0#32)) (IntOp.subi (IntOp.divsi .vector s 2#32) 1#32) (IntOp.divsi .vector s 2#32)) 1023#32

/-- The probed row of one lane, from the sum of its ends: half of it, and at most 1023. -/
theorem probe1_eq : ∀ s : Fin 2049, probe1 (BitVec.ofNat 32 s.val) = BitVec.ofNat 32 (min (s.val / 2) 1023) := by decide +kernel

/-- So a lane probes the middle of its two ends, and at most row 1023. -/
theorem midV_lane {lo hi : IVec V16 32} {x : V16.Idx} {l h : ℕ} (hl : l ≤ 1024) (hh : h ≤ 1024)
    (el : lo x = BitVec.ofNat 32 l) (eh : hi x = BitVec.ofNat 32 h) :
    midV lo hi x = BitVec.ofNat 32 (min ((l + h) / 2) 1023) := by
  have e : midV lo hi x = probe1 (lo x + hi x) := rfl
  rw [e, el, eh, ← BitVec.ofNat_add]
  exact probe1_eq ⟨l + h, by omega⟩

/-- The conjunction of two bits is that of the truth values. -/
theorem bit_and_one (a b : Bool) : IntOp.andi (BitVec.ofBool a) (BitVec.ofBool b) = BitVec.ofBool (a && b) := by
  cases a <;> cases b <;> rfl
/-- The flipped bit is the negated truth value. -/
theorem bit_not (a : Bool) : IntOp.xori (BitVec.ofBool a) 1#1 = BitVec.ofBool (!a) := by cases a <;> rfl
/-- A bit is one exactly if its truth value is true. -/
theorem ofBool_eq_one (a : Bool) : BitVec.ofBool a = 1 ↔ a = true := by cases a <;> decide

/-- The ids of a tile by number. -/
def nth (ids : V1024.Idx → BitVec 32) (i : ℕ) : BitVec 32 := ids (ix i)

/-- Each lane of the search is the search with its key. -/
theorem st_lane (ids : V1024.Idx → BitVec 32) (n : ℕ) (x : V16.Idx) :
    lo ids n x = BitVec.ofNat 32 (stN (nth ids) (keyV x) n).1 ∧ hi ids n x = BitVec.ofNat 32 (stN (nth ids) (keyV x) n).2 := by
  induction n with
  | zero => exact ⟨rfl, rfl⟩
  | succ n ih =>
    have hv := stN_inv (nth ids) (keyV x) n
    have hm := midV_lane (x := x) (hv.1.trans hv.2.1) hv.2.1 ih.1 ih.2
    have hg : pick ids (mid ids n) x = nth ids (min (((stN (nth ids) (keyV x) n).1 + (stN (nth ids) (keyV x) n).2) / 2) 1023) := by
      show ids (ix (midV (lo ids n) (hi ids n) x).toNat) = ids (ix _)
      rw [hm, toNat_small (by omega)]
    have el : lo ids (n + 1) x = Scalar.select (IntOp.andi (IntOp.cmpi .slt (lo ids n x) (hi ids n x)) (IntOp.cmpi .slt (got ids n x) (keyV x)))
        (mid ids n x + 1#32) (lo ids n x) := rfl
    have eh : hi ids (n + 1) x = Scalar.select (IntOp.andi (IntOp.cmpi .slt (lo ids n x) (hi ids n x)) (IntOp.xori (IntOp.cmpi .slt (got ids n x) (keyV x)) 1#1))
        (mid ids n x) (hi ids n x) := rfl
    rw [el, eh, ih.1, ih.2, show got ids n x = _ from hg, show mid ids n x = _ from hm]
    simp only [stN, stepN]
    generalize stN (nth ids) (keyV x) n = p at *
    obtain ⟨l, h⟩ := p
    simp only [IntOp.cmpi, bit_and_one, bit_not, Scalar.select, ofBool_eq_one] at *
    have hc : (BitVec.ofNat 32 l).slt (BitVec.ofNat 32 h) = decide (l < h) := by
      rw [BitVec.slt_eq_decide, toInt_small (by omega), toInt_small (by omega)]
      simp
    rw [hc]
    by_cases hlt : l < h
    · cases hq : (nth ids (min ((l + h) / 2) 1023)).slt (keyV x) <;> simp [hlt, ← BitVec.ofNat_add]
    · simp [hlt]

/-- The search's result: for each lane the cut at its key. -/
theorem lo_end (ids : V1024.Idx → BitVec 32) (x : V16.Idx) :
    lo ids 11 x = BitVec.ofNat 32 (cut (nth ids) (keyV x)) := (st_lane ids 11 x).1

/-- Every probe is an index of the ids. -/
theorem mid_lt (ids : V1024.Idx → BitVec 32) (n : ℕ) (x : V16.Idx) : (mid ids n x).toNat < 1024 := by
  have hv := stN_inv (nth ids) (keyV x) n
  have h := st_lane ids n x
  rw [show mid ids n x = _ from midV_lane (hv.1.trans hv.2.1) hv.2.1 h.1 h.2, toNat_small (by omega)]
  omega

/-- A lane's key. -/
theorem keyV_apply (x : V16.Idx) : keyV x = BitVec.ofNat 32 ((x 0).val + 1) := by
  have e : keyV x = BitVec.ofNat 32 (0 * 16 + (x 0).val) + 1#32 := rfl
  rw [e, ← BitVec.ofNat_add, Nat.zero_mul, Nat.zero_add]

end Cert.Bisect

end
-- ==== Proof.Values.lean ====
/- What one tile computes: the bounds of its sixteen segments among its 1024 rows, each segment's sum of rows added in
   row order, and each segment's count. Also the kernel's row loops' bounds, as words. Nothing here names a program. -/
module

public import proofs.«01_k».proof.Proof.Bisect
public import Idealize.ShloMosaic.Lib.Scf

@[expose] public section

noncomputable section

namespace Cert.Values

open Idealize.ShloMosaic Cert.Bisect

/-- A tile's 65536 row words. -/
abbrev V65536 : Shape := ⟨1, ![65536]⟩
/-- One word. -/
abbrev V1 : Shape := ⟨1, ![1]⟩

variable {F : FTy → Type} [FloatOps F]

/-! ## Values -/

/-- Index `n` of the row words (the remainder changes nothing below 65536). -/
def ixw (n : ℕ) : V65536.Idx := fun a => match a with | ⟨0, _⟩ => ⟨n % 65536, Nat.mod_lt n (by decide : 0 < 65536)⟩
/-- Lane `n` of a vector. -/
def lane (n : ℕ) : V16.Idx := fun a => match a with | ⟨0, _⟩ => ⟨n % 16, Nat.mod_lt n (by decide : 0 < 16)⟩

/-- Sixteen zeros. -/
def zeroV : FVec F V16 .f32 := broadcast V16 (Scalar.ofBits .f32 0x00000000#32)
/-- Columns `c` to `c + 15` of row `r`. -/
def rowV (x : V65536.Idx → F .f32) (c r : ℕ) : FVec F V16 .f32 := fun l => x (ixw (r * 64 + c + (l 0).val))
/-- Columns `c` to `c + 15` of rows `a` to `a + n - 1`, added in order. -/
def accV (x : V65536.Idx → F .f32) (c a : ℕ) : ℕ → FVec F V16 .f32
  | 0 => zeroV
  | n + 1 => addf (accV x c a n) (rowV x c (a + n))

/-- The first row of segment `s` of a tile: row 0 for the first, the end of the rows past the last, else the number of
    rows the search finds with an id below `s`. -/
def bound (ids : V1024.Idx → BitVec 32) (s : ℕ) : ℕ :=
  if s = 0 then 0 else if s < 16 then cut (nth ids) (BitVec.ofNat 32 s) else 1024

/-- A segment's bound is at most 1024. -/
theorem bound_le (ids : V1024.Idx → BitVec 32) (s : ℕ) : bound ids s ≤ 1024 := by
  unfold bound; split
  · exact Nat.zero_le _
  · split
    · exact cut_le _ _
    · exact le_rfl

/-- Segment `s`'s sum, columns `c` to `c + 15`. -/
def segV (x : V65536.Idx → F .f32) (ids : V1024.Idx → BitVec 32) (c s : ℕ) : FVec F V16 .f32 :=
  accV x c (bound ids s) (bound ids (s + 1) - bound ids s)

/-- The last segment ends with the tile's rows. -/
theorem bound_last (ids : V1024.Idx → BitVec 32) : bound ids 16 = 1024 := rfl

/-- The first segment starts with the tile's rows. -/
theorem bound_first (ids : V1024.Idx → BitVec 32) : bound ids 0 = 0 := rfl

/-- A tile's 1024 sums: segment by segment, 64 columns each. -/
def tileSum (x : V65536.Idx → F .f32) (ids : V1024.Idx → BitVec 32) : V1024.Idx → F .f32 :=
  fun y => segV x ids (16 * ((y 0).val / 16 % 4)) ((y 0).val / 64) (lane (y 0).val)

/-- The number of a tile's rows the search finds below key `s`, as a word; none below key 0. -/
def cntW (ids : V1024.Idx → BitVec 32) (s : ℕ) : BitVec 32 :=
  if s = 0 then 0#32 else BitVec.ofNat 32 (cut (nth ids) (BitVec.ofNat 32 s))

/-- A tile's sixteen counts. -/
def tileCnt (ids : V1024.Idx → BitVec 32) : V16.Idx → F .f32 :=
  sitofp .f32 (fun l : V16.Idx => IntOp.subi (cntW ids ((l 0).val + 1)) (cntW ids (l 0).val))

/-! ## The words of the bounds -/

/-- Word `k` of the search's last state is the bound of segment `k + 1`. -/
theorem word_eq (ids : V1024.Idx → BitVec 32) (k : ℕ) (hk : k < 15) (h : V16.Slices ![k] V1) (h' : ∀ a, (![0] : Fin 1 → ℕ) a < V1.size a) :
    extractAt ![0] (extractStridedSlice V1 ![k] (lo ids 11) h) h' = BitVec.ofNat 32 (bound ids (k + 1)) := by
  unfold extractAt extractStridedSlice
  rw [lo_end, keyV_apply, bound, if_neg (by omega), if_pos (by omega)]
  rfl

/-! ## The row loops -/

/-- The loop over the rows from `a` to `b`. -/
abbrev mainL (a b : BitVec 32) : Scf.Loop 32 :=
  ⟨a, Scalar.addi a (Scalar.muli (Scalar.divsi (Scalar.subi b a) 1#32) 1#32), 1#32⟩
/-- The loop over the rows that are left, none. -/
abbrev remL (a b : BitVec 32) : Scf.Loop 32 :=
  ⟨Scalar.addi a (Scalar.muli (Scalar.divsi (Scalar.subi b a) 1#32) 1#32), Scalar.addi a (Scalar.subi b a), 1#32⟩

/-- A word divided by one is itself. -/
theorem div_one (x : BitVec 32) : Scalar.divsi x 1#32 = x := by
  unfold Scalar.divsi IntOp.divsi
  rw [if_neg (by unfold IntOp.SDivCorner; simp)]
  simp

/-- The main row loop of a segment ends at the upper bound. -/
theorem ends (a b : BitVec 32) : Scalar.addi a (Scalar.muli (Scalar.divsi (Scalar.subi b a) 1#32) 1#32) = b := by
  rw [div_one]
  show a + (b - a) * 1#32 = b
  rw [BitVec.mul_one, BitVec.add_comm, BitVec.sub_add_cancel]

/-- The lower bound and the length make the upper bound. -/
theorem ends' (a b : BitVec 32) : Scalar.addi a (Scalar.subi b a) = b := by
  show a + (b - a) = b
  rw [BitVec.add_comm, BitVec.sub_add_cancel]

/-- The word one, signed, is one. -/
theorem one_toInt : (1#32 : BitVec 32).toInt = 1 := by decide

/-- A loop of step one makes as many rounds as its bounds are apart. -/
theorem trips_one (a b : BitVec 32) : Scf.trips a b 1#32 = (b.toInt - a.toInt).toNat := by
  unfold Scf.trips; rw [one_toInt, Int.ediv_one]; congr 1; omega

/-- The main row loop makes one round for each row of the segment. -/
theorem mainL_trips {a b : ℕ} (ha : a ≤ 1024) (hb : b ≤ 1024) :
    (mainL (BitVec.ofNat 32 a) (BitVec.ofNat 32 b)).trips = b - a := by
  show Scf.trips _ (Scalar.addi _ _) _ = _
  rw [ends, trips_one, toInt_small (by omega), toInt_small (by omega)]; omega

/-- The remainder loop makes none. -/
theorem remL_trips (a b : BitVec 32) : (remL a b).trips = 0 := by
  show Scf.trips (Scalar.addi _ (Scalar.muli _ _)) (Scalar.addi _ _) _ = _
  rw [ends, ends', trips_one]; omega

/-- The main row loop's counter does not overflow. -/
theorem mainL_ok {a b : ℕ} (ha : a ≤ 1024) (hb : b ≤ 1024) : (mainL (BitVec.ofNat 32 a) (BitVec.ofNat 32 b)).OK := by
  refine ⟨show 0 < (1#32 : BitVec 32).toInt by decide, ?_⟩
  have h := mainL_trips ha hb
  show (BitVec.ofNat 32 a).toInt + ((mainL (BitVec.ofNat 32 a) (BitVec.ofNat 32 b)).trips : ℤ) * (1#32 : BitVec 32).toInt < _
  rw [h, one_toInt, toInt_small (by omega)]; omega

/-- The remainder loop's counter does not overflow. -/
theorem remL_ok (a : BitVec 32) {b : ℕ} (hb : b ≤ 1024) : (remL a (BitVec.ofNat 32 b)).OK := by
  refine ⟨show 0 < (1#32 : BitVec 32).toInt by decide, ?_⟩
  have h := remL_trips a (BitVec.ofNat 32 b)
  show (Scalar.addi a (Scalar.muli (Scalar.divsi (Scalar.subi (BitVec.ofNat 32 b) a) 1#32) 1#32)).toInt
    + ((remL a (BitVec.ofNat 32 b)).trips : ℤ) * (1#32 : BitVec 32).toInt < _
  rw [h, one_toInt, ends, toInt_small (by omega)]; omega

/-- The offset of columns `c` to `c + 15` of trip `k`'s row. -/
def segOff (lb st : BitVec 32) (k : ℕ) (c : BitVec 32) : Fin 1 → ℕ :=
  ![(Scalar.indexCast (Scalar.addi (Scalar.muli (Scf.iv lb st k) 64#32) c)).toNat]

/-- The loop's counter in its round k is the start and k. -/
theorem iv_small (a k : ℕ) : Scf.iv (BitVec.ofNat 32 a) 1#32 k = BitVec.ofNat 32 (a + k) := by
  unfold Scf.iv; rw [BitVec.mul_one, BitVec.ofNat_add]

/-- A row load starts at the word of its row and lane. -/
theorem segOff_eq {a k c : ℕ} (h : a + k < 1024) (hc : c ≤ 48) :
    segOff (BitVec.ofNat 32 a) 1#32 k (BitVec.ofNat 32 c) = ![(a + k) * 64 + c] := by
  unfold segOff; rw [iv_small]
  congr 1
  show (BitVec.ofNat 32 (a + k) * 64#32 + BitVec.ofNat 32 c).toNat = _
  have h64 : (64#32 : BitVec 32).toNat = 64 := rfl
  rw [BitVec.toNat_add, BitVec.toNat_mul, h64, BitVec.toNat_ofNat, BitVec.toNat_ofNat]
  omega

/-- The facts the kernel checks of one segment's two words: both loops mean something and every load is in range. -/
theorem chk {a b : ℕ} (ha : a ≤ 1024) (hb : b ≤ 1024) :
    ((mainL (BitVec.ofNat 32 a) (BitVec.ofNat 32 b)).OK) ∧
    (∀ k : Fin (mainL (BitVec.ofNat 32 a) (BitVec.ofNat 32 b)).trips, ∀ r : Fin 4, ∀ x,
      segOff (BitVec.ofNat 32 a) 1#32 k (BitVec.ofNat 32 (16 * r.val)) x + V16.size x ≤ V65536.size x) ∧
    ((remL (BitVec.ofNat 32 a) (BitVec.ofNat 32 b)).OK) ∧
    (∀ k : Fin (remL (BitVec.ofNat 32 a) (BitVec.ofNat 32 b)).trips, ∀ r : Fin 4, ∀ x,
      segOff (Scalar.addi (BitVec.ofNat 32 a) (Scalar.muli (Scalar.divsi (Scalar.subi (BitVec.ofNat 32 b) (BitVec.ofNat 32 a)) 1#32) 1#32)) 1#32 k
        (BitVec.ofNat 32 (16 * r.val)) x + V16.size x ≤ V65536.size x) := by
  refine ⟨mainL_ok ha hb, fun k r x => ?_, remL_ok _ hb, fun k => ?_⟩
  · have hk : k.val < b - a := lt_of_lt_of_eq k.isLt (mainL_trips ha hb)
    rw [segOff_eq (by omega) (by omega)]
    fin_cases x
    show (a + k.val) * 64 + 16 * r.val + 16 ≤ 65536
    omega
  · exact absurd (lt_of_lt_of_eq k.isLt (remL_trips _ _)) (Nat.not_lt_zero _)

/-- The trips of the loop over the rows from `a` to `b`, the words given by equations; -/
theorem mainL_trips' {wa wb : BitVec 32} {a b : ℕ} (ea : wa = BitVec.ofNat 32 a) (eb : wb = BitVec.ofNat 32 b) (ha : a ≤ 1024) (hb : b ≤ 1024) :
    (mainL wa wb).trips = b - a := by
  subst ea eb; exact mainL_trips ha hb

/-- the offsets of its loads; -/
theorem segOff_eq' {w : BitVec 32} {a k c : ℕ} (e : w = BitVec.ofNat 32 a) (h : a + k < 1024) (hc : c ≤ 48) :
    segOff w 1#32 k (BitVec.ofNat 32 c) = ![(a + k) * 64 + c] := by
  subst e; exact segOff_eq h hc

/-- and the checked facts. -/
theorem chk' {wa wb : BitVec 32} {a b : ℕ} (ea : wa = BitVec.ofNat 32 a) (eb : wb = BitVec.ofNat 32 b) (ha : a ≤ 1024) (hb : b ≤ 1024) :
    ((mainL wa wb).OK) ∧
    (∀ k : Fin (mainL wa wb).trips, ∀ r : Fin 4, ∀ x, segOff wa 1#32 k (BitVec.ofNat 32 (16 * r.val)) x + V16.size x ≤ V65536.size x) ∧
    ((remL wa wb).OK) ∧
    (∀ k : Fin (remL wa wb).trips, ∀ r : Fin 4, ∀ x,
      segOff (Scalar.addi wa (Scalar.muli (Scalar.divsi (Scalar.subi wb wa) 1#32) 1#32)) 1#32 k
        (BitVec.ofNat 32 (16 * r.val)) x + V16.size x ≤ V65536.size x) := by
  subst ea eb; exact chk ha hb

end Cert.Values

end
-- ==== Proof.Whole.lean ====
/- What the thirty-two tiles leave in the two arrays they write: each tile's stretch holds that tile's sums, and its
   sixteen words that tile's counts. Nothing here names a program. -/
module

public import proofs.«01_k».proof.Proof.Values

@[expose] public section

noncomputable section

namespace Cert.Values

open Idealize.ShloMosaic Cert.Bisect

/-- All the row words. -/
abbrev V2097152 : Shape := ⟨1, ![2097152]⟩
/-- All the ids, or all the tiles' sums. -/
abbrev V32768 : Shape := ⟨1, ![32768]⟩
/-- All the tiles' counts. -/
abbrev V512 : Shape := ⟨1, ![512]⟩

variable {F : FTy → Type} [FloatOps F]

/-- Index `n` of all the row words (the remainder changes nothing below 2097152). -/
def ixx (n : ℕ) : V2097152.Idx := fun a => match a with | ⟨0, _⟩ => ⟨n % 2097152, Nat.mod_lt n (by decide : 0 < 2097152)⟩
/-- Index `n` of all the ids. -/
def ixi (n : ℕ) : V32768.Idx := fun a => match a with | ⟨0, _⟩ => ⟨n % 32768, Nat.mod_lt n (by decide : 0 < 32768)⟩
/-- Index `n` of a tile's sums. -/
def ixs (n : ℕ) : V1024.Idx := fun a => match a with | ⟨0, _⟩ => ⟨n % 1024, Nat.mod_lt n (by decide : 0 < 1024)⟩

/-- Tile `t`'s row words. -/
def tileX (x : V2097152.Idx → F .f32) (t : ℕ) : V65536.Idx → F .f32 := fun j => x (ixx (65536 * t + (j 0).val))
/-- Tile `t`'s ids. -/
def tileI (ids : V32768.Idx → BitVec 32) (t : ℕ) : V1024.Idx → BitVec 32 := fun j => ids (ixi (1024 * t + (j 0).val))

/-- All the tiles' sums. -/
def SUMS (x : V2097152.Idx → F .f32) (ids : V32768.Idx → BitVec 32) : V32768.Idx → F .f32 :=
  fun y => tileSum (tileX x ((y 0).val / 1024)) (tileI ids ((y 0).val / 1024)) (ixs (y 0).val)
/-- All the tiles' counts. -/
def CNTS (ids : V32768.Idx → BitVec 32) : V512.Idx → F .f32 :=
  fun y => tileCnt (tileI ids ((y 0).val / 16)) (lane (y 0).val)

/-- An index of a vector is its one coordinate. -/
theorem ext1 {n : ℕ} {y z : (⟨1, ![n]⟩ : Shape).Idx} (h : (y 0).val = (z 0).val) : y = z :=
  funext fun a => Fin.ext (by obtain rfl : a = 0 := Subsingleton.elim _ _; exact h)

/-- A tile's sums, at an index of the array and the tile's own index. -/
theorem SUMS_at (x : V2097152.Idx → F .f32) (ids : V32768.Idx → BitVec 32) (t : ℕ) (j : V1024.Idx) (y : V32768.Idx) (h : (y 0).val = 1024 * t + (j 0).val) :
    SUMS x ids y = tileSum (tileX x t) (tileI ids t) j := by
  have hj : (j 0).val < 1024 := (j 0).isLt
  have e1 : (y 0).val / 1024 = t := by omega
  have e2 : ixs (y 0).val = j := ext1 (by show (y 0).val % 1024 = _; omega)
  unfold SUMS; rw [e1, e2]

/-- A tile's counts, likewise. -/
theorem CNTS_at (ids : V32768.Idx → BitVec 32) (t : ℕ) (j : V16.Idx) (y : V512.Idx) (h : (y 0).val = 16 * t + (j 0).val) :
    CNTS (F := F) ids y = tileCnt (tileI ids t) j := by
  have hj : (j 0).val < 16 := (j 0).isLt
  have e1 : (y 0).val / 16 = t := by omega
  have e2 : lane (y 0).val = j := ext1 (by show (y 0).val % 16 = _; omega)
  unfold CNTS; rw [e1, e2]

end Cert.Values

end
-- ==== Proof.IBase.lean ====
/- The program as the launch theorem sees it: the handshakes' configuration, the body table, the resource algebra, and
   one vector subcore's thread. -/
module

public import proofs.«01_k».proof.Defs
public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and none is a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; -/
abbrev UH : Type := URounds (GSem nD τ sig) ℕ
/-- the pipeline's staging rounds; -/
abbrev UP : Type := UR sig nD τ
/-- and, beside them, the copies' counters. -/
abbrev UU : Type := UH × (UP × Counters)

/-- The handshakes' rounds in the machine's algebra. -/
abbrev EH : Emb UH (MT nD τ sig (HIx 1) (Elt F) ℕ UU ℕ) := embL
/-- The pipeline's rounds in the machine's algebra. -/
abbrev EP : Emb UP (MT nD τ sig (HIx 1) (Elt F) ℕ UU ℕ) := (Emb.inl : Emb UP (UP × Counters)).trans embR

/-- The thread of the vector subcore with the grid coordinates `i`. -/
abbrev vt (d : Dev nD) (i : grid0.Coords) : Thread nD τ := V d ((i 0).castLE hcore0) ((i 1).castLE hsub0)

end Cert.Proof.I

end
-- ==== Proof.IRows.lean ====
/- The pieces of one tile's body: a probe of the search, the loop over a segment's rows, and the store of one vector of
   the sums. Each is proved once, over any buffers. -/
module

public import proofs.«01_k».proof.Proof.IBase
public import Idealize.ShloMosaic.Lib.SparseCore.Ops

@[expose] public section

noncomputable section

namespace Cert.Proof.I

open Cert.KernelIdeal Cert.KernelIdeal.Gen Cert.Bisect Cert.Values

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The four vectors a row loop carries. -/
abbrev T4 (F : FTy → Type) : Type := FVec F S16 .f32 × FVec F S16 .f32 × FVec F S16 .f32 × FVec F S16 .f32

variable (d : Dev nD) (i : grid0.Coords)
variable {α : Type} {Q : α → sProp (MT nD τ sig (HIx 1) (Elt F) ℕ UU ℕ)}

/-- The weakest precondition of a piece of one tile's body. -/
abbrev wpT {α : Type} (p : Prog (TpuEff nD τ sig (Elt F) Λ₀ (.scVector ((i 0).castLE hcore0) ((i 1).castLE hsub0))) α)
    (Q : α → sProp (MT nD τ sig (HIx 1) (Elt F) ℕ UU ℕ)) : sProp (MT nD τ sig (HIx 1) (Elt F) ℕ UU ℕ) :=
  wp frame (wpE (defs₀ (F := F)) 𝒱₀ (vt d i) none) Set.univ p Q

/-- A check that holds is passed. -/
theorem wp_chk {P : Prop} {dd : Decidable P} (h : P) {k : PLift P → Prog (TpuEff nD τ sig (Elt F) Λ₀ (.scVector ((i 0).castLE hcore0) ((i 1).castLE hsub0))) α} :
    wpT d i (k ⟨h⟩) Q ⊢ wpT d i (.op (.assume P dd) k) Q :=
  Entails.of_eq (wp_assume_of 𝒱₀ (vt d i) none Set.univ h).symm

/-- A piece that ends. -/
theorem wp_end {v : α} : Q v ⊢ wpT d i (.ret v) Q := by
  unfold wpT; rw [wp_ret]; iintro H; imodintro; iexact H

/-! ## The search -/

variable (m7 : Memref sig .scVector .vmem S1024 .i32) (f7 : Buf (Elt F) (m7.view.loc (vt d i)))

/-- The tile's ids as the search reads them. -/
abbrev idsOf : V1024.Idx → BitVec 32 := m7.view.read (Elt F) f7

/-- The probes of every round are in range. -/
theorem mid_ok (ids : V1024.Idx → BitVec 32) (n : ℕ) : ∀ a x, ((![mid ids n] : Fin 1 → IVec S16 32) a x).toNat < S1024.size a := by
  intro a x; fin_cases a; exact mid_lt ids n x

/-- One probe: the ids at round `n`'s probes. -/
theorem wp_probe (n : ℕ) (v : IVec S16 32) (hv : v = mid (idsOf d i m7 f7) n) {h : ∀ a x, ((![v] : Fin 1 → IVec S16 32) a x).toNat < S1024.size a}
    {hl : m7.view.Loads} {k : Vec F S16 .i32 → Prog (TpuEff nD τ sig (Elt F) Λ₀ (.scVector ((i 0).castLE hcore0) ((i 1).castLE hsub0))) α} :
    (m7.view.loc (vt d i) ↦[m7.view.set]{fullShare} f7 : sProp 𝕄)
      ⊢ iprop(((m7.view.loc (vt d i) ↦[m7.view.set]{fullShare} f7) -∗ wpT d i (k (got (idsOf d i m7 f7) n)) Q)
        -∗ wpT d i (SparseCore.vectorLoadIdx m7 ![v] h hl >>= k) Q) := by
  have e : loadIdx ((m7.access (.whole S1024)).read (Elt F) f7) ![v] h = got (idsOf d i m7 f7) n := by
    subst hv
    funext x
    show m7.view.read (Elt F) f7 ((Rect.whole S1024).emb (idxAt ![mid (idsOf d i m7 f7) n] h x)) = idsOf d i m7 f7 (ix (mid (idsOf d i m7 f7) n x).toNat)
    congr 1
    funext a; fin_cases a
    apply Fin.ext
    have hx : (mid (idsOf d i m7 f7) n x).toNat < 1024 := h 0 x
    show 0 + 1 * (mid (idsOf d i m7 f7) n x).toNat = (mid (idsOf d i m7 f7) n x).toNat % 1024
    omega
  rw [← e]
  exact SparseCore.wp_vectorLoadIdx 𝒱₀ (vt d i) none Set.univ (base := m7) (View.set_slice_subset _ _)

/-! ## The row loops -/

variable (m6 : Memref sig .scVector .vmem S65536 .f32) (f6 : Buf (Elt F) (m6.view.loc (vt d i)))

/-- The tile's row words. -/
abbrev rowsOf : V65536.Idx → F .f32 := m6.view.read (Elt F) f6

/-- Sixteen words read from offset `n`. -/
theorem read_row {off : Fin 1 → ℕ} {r c : ℕ} (ho : off = ![r * 64 + c]) (inb : ∀ a, off a + S16.size a ≤ S65536.size a) :
    m6.view.readAt (Elt F) (Rect.unit (s := S65536) off S16.size inb).toLoadRect f6 = rowV (rowsOf d i m6 f6) c r := by
  subst ho
  funext l
  rw [View.readAt_apply]
  show m6.view.read (Elt F) f6 _ = m6.view.read (Elt F) f6 (ixw (r * 64 + c + (l 0).val))
  congr 1
  funext a; fin_cases a
  apply Fin.ext
  have hl : (l 0).val < 16 := (l 0).isLt
  have hi : r * 64 + c + 16 ≤ 65536 := inb 0
  show r * 64 + c + 1 * (l 0).val = (r * 64 + c + (l 0).val) % 65536
  omega

/-- The loop over the rows from `a` to `b`: from four zero vectors to the four sums of those rows' columns. -/
theorem wp_rows (L : Scf.Loop 32) (hok : L.OK) (body : Fin L.trips → T4 F → Prog (TpuEff nD τ sig (Elt F) Λ₀ (.scVector ((i 0).castLE hcore0) ((i 1).castLE hsub0))) (T4 F))
    {a b : ℕ} (hb : b ≤ 1024) (ht : L.trips = b - a)
    (off : Fin L.trips → BitVec 32 → Fin 1 → ℕ)
    (hoff : ∀ k c, a + k.val < 1024 → c ≤ 48 → off k (BitVec.ofNat 32 c) = ![(a + k.val) * 64 + c])
    (i0 : ∀ k x, off k 0#32 x + S16.size x ≤ S65536.size x) (i1 : ∀ k x, off k 16#32 x + S16.size x ≤ S65536.size x)
    (i2 : ∀ k x, off k 32#32 x + S16.size x ≤ S65536.size x) (i3 : ∀ k x, off k 48#32 x + S16.size x ≤ S65536.size x)
    (hbody : ∀ k z0 z1 z2 z3, body k (z0, z1, z2, z3) =
      .op (.load m6 (Rect.unit (s := S65536) (off k 0#32) S16.size (i0 k)).toLoadRect (View.loadsAt_vmem h_S16)) fun (w0 : FVec F S16 .f32) =>
      .op (.load m6 (Rect.unit (s := S65536) (off k 16#32) S16.size (i1 k)).toLoadRect (View.loadsAt_vmem h_S16)) fun (w1 : FVec F S16 .f32) =>
      .op (.load m6 (Rect.unit (s := S65536) (off k 32#32) S16.size (i2 k)).toLoadRect (View.loadsAt_vmem h_S16)) fun (w2 : FVec F S16 .f32) =>
      .op (.load m6 (Rect.unit (s := S65536) (off k 48#32) S16.size (i3 k)).toLoadRect (View.loadsAt_vmem h_S16)) fun (w3 : FVec F S16 .f32) =>
      .ret (addf (F := F) (φ := .f32) (s := S16) z0 w0, addf (F := F) (φ := .f32) (s := S16) z1 w1, addf (F := F) (φ := .f32) (s := S16) z2 w2, addf (F := F) (φ := .f32) (s := S16) z3 w3))
    (init : T4 F) (hi : init = (zeroV, zeroV, zeroV, zeroV))
    {kk : T4 F → Prog (TpuEff nD τ sig (Elt F) Λ₀ (.scVector ((i 0).castLE hcore0) ((i 1).castLE hsub0))) α} :
    (m6.view.loc (vt d i) ↦[m6.view.set]{fullShare} f6 : sProp 𝕄)
      ⊢ iprop(((m6.view.loc (vt d i) ↦[m6.view.set]{fullShare} f6) -∗ wpT d i (kk (accV (rowsOf d i m6 f6) 0 a (b - a), accV (rowsOf d i m6 f6) 16 a (b - a),
            accV (rowsOf d i m6 f6) 32 a (b - a), accV (rowsOf d i m6 f6) 48 a (b - a))) Q)
        -∗ wpT d i (L.for hok init body >>= kk) Q) := by
  subst hi
  let I : ℕ → T4 F → sProp 𝕄 := fun n z => iprop((m6.view.loc (vt d i) ↦[m6.view.set]{fullShare} f6)
    ∗ ⌜z = (accV (rowsOf d i m6 f6) 0 a n, accV (rowsOf d i m6 f6) 16 a n, accV (rowsOf d i m6 f6) 32 a n, accV (rowsOf d i m6 f6) 48 a n)⌝)
  have hstep : ∀ (k : Fin L.trips) (z : T4 F), I k z ⊢ wpT d i (body k z) (I (k.val + 1)) := by
    intro k z
    have hk : a + k.val < 1024 := by have := lt_of_lt_of_eq k.isLt ht; omega
    iintro ⟨H, %hz⟩
    subst hz
    rw [hbody]
    iapply (wp_load 𝒱₀ (vt d i) none Set.univ (m := m6) (S := m6.view.set) (View.setOn_subset_set _ _)) $$ H; iintro H
    iapply (wp_load 𝒱₀ (vt d i) none Set.univ (m := m6) (S := m6.view.set) (View.setOn_subset_set _ _)) $$ H; iintro H
    iapply (wp_load 𝒱₀ (vt d i) none Set.univ (m := m6) (S := m6.view.set) (View.setOn_subset_set _ _)) $$ H; iintro H
    iapply (wp_load 𝒱₀ (vt d i) none Set.univ (m := m6) (S := m6.view.set) (View.setOn_subset_set _ _)) $$ H; iintro H
    rw [wp_ret]; imodintro
    isplitl [H]; · iexact H
    ipureintro
    rw [read_row d i m6 f6 (hoff k 0 hk (by omega)), read_row d i m6 f6 (hoff k 16 hk (by omega)), read_row d i m6 f6 (hoff k 32 hk (by omega)),
      read_row d i m6 f6 (hoff k 48 hk (by omega))]
    rfl
  iintro H Hk
  iapply (Scf.wp_for_bind frame (wpE (defs₀ (F := F)) 𝒱₀ (vt d i) none) Set.univ L.lb L.ub L.st hok (zeroV, zeroV, zeroV, zeroV) body I hstep) $$ [H]
  · isplitl [H]; · iexact H
    ipureintro; rfl
  iintro %z ⟨H, %hz⟩
  subst hz
  rw [show Scf.trips L.lb L.ub L.st = b - a from ht]
  iapply Hk; iexact H

/-- A loop of no trips changes nothing. -/
theorem wp_none (L : Scf.Loop 32) (hok : L.OK) (body : Fin L.trips → T4 F → Prog (TpuEff nD τ sig (Elt F) Λ₀ (.scVector ((i 0).castLE hcore0) ((i 1).castLE hsub0))) (T4 F))
    (ht : L.trips = 0) (init : T4 F) {kk : T4 F → Prog (TpuEff nD τ sig (Elt F) Λ₀ (.scVector ((i 0).castLE hcore0) ((i 1).castLE hsub0))) α} :
    (wpT d i (kk init) Q) ⊢ wpT d i (L.for hok init body >>= kk) Q := by
  let I : ℕ → T4 F → sProp 𝕄 := fun _ z => iprop(⌜z = init⌝)
  iintro H
  iapply (Scf.wp_for_bind frame (wpE (defs₀ (F := F)) 𝒱₀ (vt d i) none) Set.univ L.lb L.ub L.st hok init body I
    (fun k _ => absurd (lt_of_lt_of_eq k.isLt ht) (Nat.not_lt_zero _))) $$ []
  · ipureintro; rfl
  iintro %z %hz
  subst hz
  iexact H

/-! ## The sums -/

variable (m8 : Memref sig .scVector .vmem S1024 .f32)

/-- The first `16 * j` words of the sums' buffer hold the tile's sums. -/
def accI (x : V65536.Idx → F .f32) (ids : V1024.Idx → BitVec 32) (j : ℕ) : sProp 𝕄 :=
  iprop(∃ f : Buf (Elt F) (m8.view.loc (vt d i)), (m8.view.loc (vt d i) ↦[m8.view.set]{fullShare} f)
    ∗ ⌜∀ y : S1024.Idx, (y 0).val < 16 * j → m8.view.read (Elt F) f y = tileSum x ids y⌝)

/-- A vector of the sums, read before it is stored. -/
theorem wp_peek (x : V65536.Idx → F .f32) (ids : V1024.Idx → BitVec 32) (j n : ℕ)
    {inb : ∀ a, (![n] : Fin 1 → ℕ) a + S16.size a ≤ S1024.size a}
    {hl : m8.view.LoadsAt (Rect.unit (s := S1024) ![n] S16.size inb).toLoadRect}
    {kk : Prog (TpuEff nD τ sig (Elt F) Λ₀ (.scVector ((i 0).castLE hcore0) ((i 1).castLE hsub0))) α} :
    accI d i m8 x ids j ⊢ iprop((accI d i m8 x ids j -∗ wpT d i kk Q)
      -∗ wpT d i (.op (.load m8 (Rect.unit (s := S1024) ![n] S16.size inb).toLoadRect hl) fun _ => kk) Q) := by
  unfold accI
  iintro ⟨%f, H, %hf⟩ Hk
  iapply (wp_load 𝒱₀ (vt d i) none Set.univ (m := m8) (S := m8.view.set) (View.setOn_subset_set _ _)) $$ H; iintro H
  iapply Hk
  iexists f
  isplitl [H]; · iexact H
  ipureintro; exact hf

/-- The next vector of the sums is stored. -/
theorem wp_put (x : V65536.Idx → F .f32) (ids : V1024.Idx → BitVec 32) (j : ℕ) (hj : j < 64) (off : Fin 1 → ℕ) (ho : off = ![16 * j])
    {inb : ∀ a, off a + S16.size a ≤ S1024.size a} (v : FVec F S16 .f32) (hv : v = segV x ids (16 * (j % 4)) (j / 4))
    {hx : (m8.access (Rect.unit (s := S1024) off S16.size inb)).Stores Finset.univ} {hm}
    {kk : PUnit → Prog (TpuEff nD τ sig (Elt F) Λ₀ (.scVector ((i 0).castLE hcore0) ((i 1).castLE hsub0))) α} :
    accI d i m8 x ids j ⊢ iprop((accI d i m8 x ids (j + 1) -∗ wpT d i (kk ⟨⟩) Q)
      -∗ wpT d i (.op (.store m8 (Rect.unit (s := S1024) off S16.size inb) v Finset.univ hx hm) kk) Q) := by
  subst ho hv
  unfold accI
  iintro ⟨%f, H, %hf⟩ Hk
  iapply (wp_store 𝒱₀ (vt d i) none Set.univ (m := m8) (r := Rect.unit (s := S1024) ![16 * j] S16.size inb) (S := m8.view.set) ((View.setOn_subset_set _ _).trans (View.set_slice_subset _ _))) $$ H; iintro H
  iapply Hk
  iexists _
  isplitl [H]; · iexact H
  ipureintro
  intro y hy
  have hi : 16 * j + 16 ≤ 1024 := inb 0
  by_cases h : (y 0).val < 16 * j
  · exact (View.read_slice_write_of_not_mem (v := m8.view) (Rect.unit (s := S1024) ![16 * j] S16.size inb) f _ Finset.univ (fun hm => by
        obtain ⟨l, -, hl⟩ := Finset.mem_map.mp hm
        have e : 16 * j + 1 * (l 0).val = (y 0).val := congrArg (fun z : S1024.Idx => (z 0).val) hl
        omega)).trans (hf y h)
  · have hl : (y 0).val - 16 * j < 16 := by omega
    have e : y = (Rect.unit (s := S1024) ![16 * j] S16.size inb).emb (lane ((y 0).val - 16 * j)) := by
      funext a; fin_cases a
      apply Fin.ext
      show (y 0).val = 16 * j + 1 * (((y 0).val - 16 * j) % 16)
      omega
    have hr := View.read_slice_write_emb (v := m8.view) (Rect.unit (s := S1024) ![16 * j] S16.size inb) f
      (segV x ids (16 * (j % 4)) (j / 4)) (M := Finset.univ) (x := lane ((y 0).val - 16 * j)) (Finset.mem_univ _)
    rw [← e] at hr
    refine hr.trans ?_
    unfold tileSum
    rw [show (y 0).val / 16 = j by omega, show (y 0).val / 64 = j / 4 by omega]
    congr 1
    funext a; fin_cases a
    apply Fin.ext
    show ((y 0).val - 16 * j) % 16 = (y 0).val % 16
    omega

/-- The next vector of the sums is stored, its place given in literals. -/
theorem wp_last (x : V65536.Idx → F .f32) (ids : V1024.Idx → BitVec 32) (j j' s s' c n : ℕ) (h : j < 64 ∧ j' = j + 1 ∧ s = j / 4 ∧ s' = s + 1 ∧ c = 16 * (j % 4) ∧ n = 16 * j)
    {inb : ∀ a, (![n] : Fin 1 → ℕ) a + S16.size a ≤ S1024.size a}
    {hx : (m8.access (Rect.unit (s := S1024) ![n] S16.size inb)).Stores Finset.univ} {hm}
    {kk : PUnit → Prog (TpuEff nD τ sig (Elt F) Λ₀ (.scVector ((i 0).castLE hcore0) ((i 1).castLE hsub0))) α} :
    accI d i m8 x ids j ⊢ iprop((accI d i m8 x ids j' -∗ wpT d i (kk ⟨⟩) Q)
      -∗ wpT d i (.op (.store m8 (Rect.unit (s := S1024) ![n] S16.size inb) (accV x c (bound ids s) (bound ids s' - bound ids s)) Finset.univ hx hm) kk) Q) := by
  obtain ⟨h1, h2, h3, h4, h5, h6⟩ := h
  subst h2 h3 h4 h5 h6
  exact wp_put d i m8 x ids j h1 _ rfl _ rfl

/-- The next vector of the sums is read and stored. -/
theorem wp_col (x : V65536.Idx → F .f32) (ids : V1024.Idx → BitVec 32) (j j' s s' c n : ℕ) (h : j < 64 ∧ j' = j + 1 ∧ s = j / 4 ∧ s' = s + 1 ∧ c = 16 * (j % 4) ∧ n = 16 * j)
    {inb : ∀ a, (![n] : Fin 1 → ℕ) a + S16.size a ≤ S1024.size a}
    {hl : m8.view.LoadsAt (Rect.unit (s := S1024) ![n] S16.size inb).toLoadRect}
    {hx : (m8.access (Rect.unit (s := S1024) ![n] S16.size inb)).Stores Finset.univ} {hm}
    {kk : PUnit → Prog (TpuEff nD τ sig (Elt F) Λ₀ (.scVector ((i 0).castLE hcore0) ((i 1).castLE hsub0))) α} :
    accI d i m8 x ids j ⊢ iprop((accI d i m8 x ids j' -∗ wpT d i (kk ⟨⟩) Q)
      -∗ wpT d i (.op (.load m8 (Rect.unit (s := S1024) ![n] S16.size inb).toLoadRect hl) fun _ =>
          .op (.store m8 (Rect.unit (s := S1024) ![n] S16.size inb) (accV x c (bound ids s) (bound ids s' - bound ids s)) Finset.univ hx hm) kk) Q) := by
  iintro Ha Hk
  iapply (wp_peek d i m8 x ids j n) $$ Ha; iintro Ha
  iapply (wp_last d i m8 x ids j j' s s' c n h) $$ Ha; iintro Ha
  iapply Hk; iexact Ha

/-- The four vectors of segment `s`, stored one after another. -/
theorem wp_four (x : V65536.Idx → F .f32) (ids : V1024.Idx → BitVec 32) (s s' j j' n0 n1 n2 n3 : ℕ)
    (h : s < 16 ∧ s' = s + 1 ∧ j = 4 * s ∧ j' = j + 4 ∧ n0 = 64 * s ∧ n1 = 64 * s + 16 ∧ n2 = 64 * s + 32 ∧ n3 = 64 * s + 48)
    {b0 : ∀ a, (![n0] : Fin 1 → ℕ) a + S16.size a ≤ S1024.size a} {b1 : ∀ a, (![n1] : Fin 1 → ℕ) a + S16.size a ≤ S1024.size a}
    {b2 : ∀ a, (![n2] : Fin 1 → ℕ) a + S16.size a ≤ S1024.size a} {b3 : ∀ a, (![n3] : Fin 1 → ℕ) a + S16.size a ≤ S1024.size a}
    {l0 l1 l2 l3 x0 x1 x2 x3 y0 y1 y2 y3} {kk : PUnit → Prog (TpuEff nD τ sig (Elt F) Λ₀ (.scVector ((i 0).castLE hcore0) ((i 1).castLE hsub0))) α} :
    accI d i m8 x ids j ⊢ iprop((accI d i m8 x ids j' -∗ wpT d i (kk ⟨⟩) Q)
      -∗ wpT d i (.op (.load m8 (Rect.unit (s := S1024) ![n0] S16.size b0).toLoadRect l0) fun _ =>
          .op (.store m8 (Rect.unit (s := S1024) ![n0] S16.size b0) (accV x 0 (bound ids s) (bound ids s' - bound ids s)) Finset.univ x0 y0) fun _ =>
          .op (.load m8 (Rect.unit (s := S1024) ![n1] S16.size b1).toLoadRect l1) fun _ =>
          .op (.store m8 (Rect.unit (s := S1024) ![n1] S16.size b1) (accV x 16 (bound ids s) (bound ids s' - bound ids s)) Finset.univ x1 y1) fun _ =>
          .op (.load m8 (Rect.unit (s := S1024) ![n2] S16.size b2).toLoadRect l2) fun _ =>
          .op (.store m8 (Rect.unit (s := S1024) ![n2] S16.size b2) (accV x 32 (bound ids s) (bound ids s' - bound ids s)) Finset.univ x2 y2) fun _ =>
          .op (.load m8 (Rect.unit (s := S1024) ![n3] S16.size b3).toLoadRect l3) fun _ =>
          .op (.store m8 (Rect.unit (s := S1024) ![n3] S16.size b3) (accV x 48 (bound ids s) (bound ids s' - bound ids s)) Finset.univ x3 y3) kk) Q) := by
  obtain ⟨h1, h2, h3, h4, h5, h6, h7, h8⟩ := h
  subst h2 h3 h4 h5 h6 h7 h8
  iintro Ha Hk
  iapply (wp_col d i m8 x ids (4 * s) (4 * s + 1) s (s + 1) 0 (64 * s) (by omega)) $$ Ha; iintro Ha
  iapply (wp_col d i m8 x ids (4 * s + 1) (4 * s + 2) s (s + 1) 16 (64 * s + 16) (by omega)) $$ Ha; iintro Ha
  iapply (wp_col d i m8 x ids (4 * s + 2) (4 * s + 3) s (s + 1) 32 (64 * s + 32) (by omega)) $$ Ha; iintro Ha
  iapply (wp_col d i m8 x ids (4 * s + 3) (4 * s + 4) s (s + 1) 48 (64 * s + 48) (by omega)) $$ Ha; iintro Ha
  iapply Hk; iexact Ha

/-- Segment `s`'s two loops: over its rows, and over none. -/
theorem wp_loops (ids : V1024.Idx → BitVec 32) (s s' : ℕ) {wa wb : BitVec 32} (ea : wa = BitVec.ofNat 32 (bound ids s)) (eb : wb = BitVec.ofNat 32 (bound ids s'))
    (L L' : Scf.Loop 32) {hok : L.OK} {hok' : L'.OK}
    {body : Fin L.trips → T4 F → Prog (TpuEff nD τ sig (Elt F) Λ₀ (.scVector ((i 0).castLE hcore0) ((i 1).castLE hsub0))) (T4 F)}
    {body' : Fin L'.trips → T4 F → Prog (TpuEff nD τ sig (Elt F) Λ₀ (.scVector ((i 0).castLE hcore0) ((i 1).castLE hsub0))) (T4 F)}
    (off : Fin L.trips → BitVec 32 → Fin 1 → ℕ)
    (hin : ∀ k, ∀ r : Fin 4, ∀ x, off k (BitVec.ofNat 32 (16 * r.val)) x + S16.size x ≤ S65536.size x)
    (ht : L.trips = (mainL wa wb).trips) (ht' : L'.trips = (remL wa wb).trips) (hoff : ∀ k c, off k c = segOff wa 1#32 k.val c)
    (hbody : ∀ k z0 z1 z2 z3, body k (z0, z1, z2, z3) =
      .op (.load m6 (Rect.unit (s := S65536) (off k 0#32) S16.size (hin k 0)).toLoadRect (View.loadsAt_vmem h_S16)) fun (w0 : FVec F S16 .f32) =>
      .op (.load m6 (Rect.unit (s := S65536) (off k 16#32) S16.size (hin k 1)).toLoadRect (View.loadsAt_vmem h_S16)) fun (w1 : FVec F S16 .f32) =>
      .op (.load m6 (Rect.unit (s := S65536) (off k 32#32) S16.size (hin k 2)).toLoadRect (View.loadsAt_vmem h_S16)) fun (w2 : FVec F S16 .f32) =>
      .op (.load m6 (Rect.unit (s := S65536) (off k 48#32) S16.size (hin k 3)).toLoadRect (View.loadsAt_vmem h_S16)) fun (w3 : FVec F S16 .f32) =>
      .ret (addf (F := F) (φ := .f32) (s := S16) z0 w0, addf (F := F) (φ := .f32) (s := S16) z1 w1, addf (F := F) (φ := .f32) (s := S16) z2 w2, addf (F := F) (φ := .f32) (s := S16) z3 w3))
    {z : FVec F S16 .f32} (hz : z = zeroV)
    {kk : T4 F → Prog (TpuEff nD τ sig (Elt F) Λ₀ (.scVector ((i 0).castLE hcore0) ((i 1).castLE hsub0))) α} :
    (m6.view.loc (vt d i) ↦[m6.view.set]{fullShare} f6 : sProp 𝕄)
      ⊢ iprop(((m6.view.loc (vt d i) ↦[m6.view.set]{fullShare} f6) -∗ wpT d i (kk (accV (rowsOf d i m6 f6) 0 (bound ids s) (bound ids s' - bound ids s),
            accV (rowsOf d i m6 f6) 16 (bound ids s) (bound ids s' - bound ids s),
            accV (rowsOf d i m6 f6) 32 (bound ids s) (bound ids s' - bound ids s), accV (rowsOf d i m6 f6) 48 (bound ids s) (bound ids s' - bound ids s))) Q)
        -∗ wpT d i (L.for hok (z, z, z, z) body >>= fun x => L'.for hok' (x.1, x.2.1, x.2.2.1, x.2.2.2) body' >>= kk) Q) := by
  iintro H Hk
  iapply (wp_rows d i m6 f6 L hok body (bound_le ids s') (ht.trans (mainL_trips' ea eb (bound_le _ _) (bound_le _ _))) off
    (fun k c h hc => (hoff k _).trans (segOff_eq' ea h hc)) (fun k => hin k 0) (fun k => hin k 1) (fun k => hin k 2) (fun k => hin k 3) hbody (z, z, z, z)
    (by rw [hz])) $$ H
  iintro H
  iapply (wp_none d i L' hok' body' (ht'.trans (remL_trips _ _)))
  iapply Hk; iexact H

end Cert.Proof.I

end
-- ==== Proof.ISegs.lean ====
/- The second half of one tile's body: the sixteen segments' sums, part by part of the printed program. -/
module

public import proofs.«01_k».proof.Proof.IRows

@[expose] public section

set_option maxRecDepth 16384

noncomputable section

namespace Cert.Proof.I

attribute [local irreducible] Cert.Values.accV Cert.Values.bound

open Cert.KernelIdeal Cert.KernelIdeal.Gen Cert.Bisect Cert.Values

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)
variable {arg2 : Memref sig .scVector .hbm S2097152 .f32} {harg2 : arg2.IsWhole} {arg3 : Memref sig .scVector .hbm S32768 .i32} {harg3 : arg3.IsWhole}
  {arg4 : Memref sig .scVector .hbm S32768 .f32} {harg4 : arg4.IsWhole} {arg5 : Memref sig .scVector .hbm S512 .f32} {harg5 : arg5.IsWhole}
  (m6 : Memref sig .scVector .vmem S65536 .f32) {h6 : m6.IsWhole} {m7 : Memref sig .scVector .vmem S1024 .i32} {h7 : m7.IsWhole}
  (m8 : Memref sig .scVector .vmem S1024 .f32) {h8 : m8.IsWhole} {m9 : Memref sig .scVector .vmem S16 .f32} {h9 : m9.IsWhole}
  {m10 : Memref sig .scVector .vmem S32 .i32} {h10 : m10.IsWhole} {r0 r1 r2 r3 : DmaSems sig S_}
variable (f6 : Buf (Elt F) (m6.view.loc (vt d i))) (ids : V1024.Idx → BitVec 32)

/-- The word of segment `s`'s first row. -/
abbrev bw (ids : V1024.Idx → BitVec 32) (s : ℕ) : BitVec 32 := BitVec.ofNat 32 (bound ids s)

/-- The row words held whole. -/
abbrev rowsP : sProp 𝕄 := m6.view.loc (vt d i) ↦[m6.view.set]{fullShare} f6

local notation "acc" => accI d i m8 (rowsOf d i m6 f6) ids

variable {v412 : IVec S16 32} (hv : v412 = lo ids 11) {v423 : FVec F S16 .f32} (hz : v423 = zeroV)

include hv hz in
/-- Segments 1 and 2, and the words of segment 3. -/
theorem part11 {v425 : BitVec 32} (e1 : v425 = bw ids 1)
    {Q : (Σ' (v451 : BitVec 32) (v464 : BitVec 32) (k0_hw15 : k0_chk15 v451 v464) (v469 : BitVec 32), BitVec 32) → sProp (MT nD τ sig (HIx 1) (Elt F) ℕ UU ℕ)} :
    iprop(rowsP d i m6 f6 ∗ acc 4) ⊢ iprop((∀ z, ⌜z.1 = bw ids 3 ∧ z.2.1 = bw ids 4⌝ -∗ rowsP d i m6 f6 -∗ acc 12 -∗ Q z)
      -∗ wpT d i (k0_part11 (F := F) i arg2 harg2 arg3 harg3 arg4 harg4 arg5 harg5 m6 h6 m7 h7 m8 h8 m9 h9 m10 h10 r0 r1 r2 r3 v412 v423 v425) Q) := by
  rw [k0_part11_eq_skeleton]; unfold k0_part11_skel
  simp only [Prog.lift, Prog.bind_op, Prog.bind_ret, Prog.pure_eq_ret]
  have e2 : extractAt ![0] (k0_pay101 v412) inpos_S1_p0 = bw ids 2 := hv ▸ word_eq ids 1 (by omega) slices_S16_o1_S1 inpos_S1_p0
  have e3 : extractAt ![0] (k0_pay110 v412) inpos_S1_p0 = bw ids 3 := hv ▸ word_eq ids 2 (by omega) slices_S16_o2_S1 inpos_S1_p0
  have e4 : extractAt ![0] (k0_pay119 v412) inpos_S1_p0 = bw ids 4 := hv ▸ word_eq ids 3 (by omega) slices_S16_o3_S1 inpos_S1_p0
  have c13 : k0_chk13 v425 (extractAt ![0] (k0_pay101 v412) inpos_S1_p0) := chk' e1 e2 (bound_le _ _) (bound_le _ _)
  have c14 : k0_chk14 (extractAt ![0] (k0_pay101 v412) inpos_S1_p0) (extractAt ![0] (k0_pay110 v412) inpos_S1_p0) := chk' e2 e3 (bound_le _ _) (bound_le _ _)
  have c15 : k0_chk15 (extractAt ![0] (k0_pay110 v412) inpos_S1_p0) (extractAt ![0] (k0_pay119 v412) inpos_S1_p0) := chk' e3 e4 (bound_le _ _) (bound_le _ _)
  iintro ⟨H, Ha⟩ Hk
  iapply (wp_chk d i c13)
  iapply (wp_loops d i m6 f6 ids 1 2 e1 e2 (k0_t3_loop _ _) (k0_t4_loop _ _) (k0_off5 _ _) (k0_off5_inb _ _ c13) rfl rfl (fun _ _ => rfl) (fun _ _ _ _ _ => rfl) hz) $$ H; iintro H
  dsimp only
  iapply (wp_four d i m8 _ ids 1 2 4 8 64 80 96 112 (by decide)) $$ Ha; iintro Ha
  iapply (wp_chk d i c14)
  iapply (wp_loops d i m6 f6 ids 2 3 e2 e3 (k0_t5_loop _ _) (k0_t6_loop _ _) (k0_off7 _ _) (k0_off7_inb _ _ c14) rfl rfl (fun _ _ => rfl) (fun _ _ _ _ _ => rfl) hz) $$ H; iintro H
  dsimp only
  iapply (wp_four d i m8 _ ids 2 3 8 12 128 144 160 176 (by decide)) $$ Ha; iintro Ha
  iapply (wp_chk d i c15)
  iapply (wp_end d i)
  iapply Hk $$ [] H Ha
  ipureintro; exact ⟨e3, e4⟩

include hv hz in
/-- Segments 3 and 4, and the first half of segment 5. -/
theorem part12 {v451 v464 : BitVec 32} (e3 : v451 = bw ids 3) (e4 : v464 = bw ids 4) {k0_hw15 : k0_chk15 v451 v464} {v469 c1 : BitVec 32}
    {Q : (Σ' (v490 : BitVec 32) (v497_2 : FVec F S16 .f32), FVec F S16 .f32) → sProp (MT nD τ sig (HIx 1) (Elt F) ℕ UU ℕ)} :
    iprop(rowsP d i m6 f6 ∗ acc 12) ⊢ iprop((∀ z, ⌜z.1 = bw ids 6 ∧ z.2.1 = accV (rowsOf d i m6 f6) 32 (bound ids 5) (bound ids 6 - bound ids 5) ∧ z.2.2 = accV (rowsOf d i m6 f6) 48 (bound ids 5) (bound ids 6 - bound ids 5)⌝ -∗ rowsP d i m6 f6 -∗ acc 22 -∗ Q z)
      -∗ wpT d i (k0_part12 (F := F) i arg2 harg2 arg3 harg3 arg4 harg4 arg5 harg5 m6 h6 m7 h7 m8 h8 m9 h9 m10 h10 r0 r1 r2 r3 v412 v423 v451 v464 k0_hw15 v469 c1) Q) := by
  rw [k0_part12_eq_skeleton]; unfold k0_part12_skel
  simp only [Prog.lift, Prog.bind_op, Prog.bind_ret, Prog.pure_eq_ret]
  have e5 : extractAt ![0] (k0_pay128 v412) inpos_S1_p0 = bw ids 5 := hv ▸ word_eq ids 4 (by omega) slices_S16_o4_S1 inpos_S1_p0
  have e6 : extractAt ![0] (k0_pay137 v412) inpos_S1_p0 = bw ids 6 := hv ▸ word_eq ids 5 (by omega) slices_S16_o5_S1 inpos_S1_p0
  have c16 : k0_chk16 v464 (extractAt ![0] (k0_pay128 v412) inpos_S1_p0) := chk' e4 e5 (bound_le _ _) (bound_le _ _)
  have c17 : k0_chk17 (extractAt ![0] (k0_pay128 v412) inpos_S1_p0) (extractAt ![0] (k0_pay137 v412) inpos_S1_p0) := chk' e5 e6 (bound_le _ _) (bound_le _ _)
  iintro ⟨H, Ha⟩ Hk
  iapply (wp_loops d i m6 f6 ids 3 4 e3 e4 (k0_t7_loop _ _) (k0_t8_loop _ _) (k0_off9 _ _) (k0_off9_inb _ _ k0_hw15) rfl rfl (fun _ _ => rfl) (fun _ _ _ _ _ => rfl) hz) $$ H; iintro H
  dsimp only
  iapply (wp_four d i m8 _ ids 3 4 12 16 192 208 224 240 (by decide)) $$ Ha; iintro Ha
  iapply (wp_chk d i c16)
  iapply (wp_loops d i m6 f6 ids 4 5 e4 e5 (k0_t9_loop _ _) (k0_t10_loop _ _) (k0_off11 _ _) (k0_off11_inb _ _ c16) rfl rfl (fun _ _ => rfl) (fun _ _ _ _ _ => rfl) hz) $$ H; iintro H
  dsimp only
  iapply (wp_four d i m8 _ ids 4 5 16 20 256 272 288 304 (by decide)) $$ Ha; iintro Ha
  iapply (wp_chk d i c17)
  iapply (wp_loops d i m6 f6 ids 5 6 e5 e6 (k0_t11_loop _ _) (k0_t12_loop _ _) (k0_off13 _ _) (k0_off13_inb _ _ c17) rfl rfl (fun _ _ => rfl) (fun _ _ _ _ _ => rfl) hz) $$ H; iintro H
  dsimp only
  iapply (wp_col d i m8 _ ids 20 21 5 6 0 320 (by decide)) $$ Ha; iintro Ha
  iapply (wp_col d i m8 _ ids 21 22 5 6 16 336 (by decide)) $$ Ha; iintro Ha
  iapply (wp_end d i)
  iapply Hk $$ [] H Ha
  ipureintro; exact ⟨e6, rfl, rfl⟩

include hv hz in
/-- The second half of segment 5, segments 6 and 7, and the words of segment 8. -/
theorem part13 {v490 : BitVec 32} (e6 : v490 = bw ids 6) {v497_2 v497_3 : FVec F S16 .f32} (g2 : v497_2 = accV (rowsOf d i m6 f6) 32 (bound ids 5) (bound ids 6 - bound ids 5)) (g3 : v497_3 = accV (rowsOf d i m6 f6) 48 (bound ids 5) (bound ids 6 - bound ids 5))
    {Q : (Σ' (v516 : BitVec 32) (v529 : BitVec 32) (k0_hw20 : k0_chk20 v516 v529), BitVec 32) → sProp (MT nD τ sig (HIx 1) (Elt F) ℕ UU ℕ)} :
    iprop(rowsP d i m6 f6 ∗ acc 22) ⊢ iprop((∀ z, ⌜z.1 = bw ids 8 ∧ z.2.1 = bw ids 9⌝ -∗ rowsP d i m6 f6 -∗ acc 32 -∗ Q z)
      -∗ wpT d i (k0_part13 (F := F) i arg2 harg2 arg3 harg3 arg4 harg4 arg5 harg5 m6 h6 m7 h7 m8 h8 m9 h9 m10 h10 r0 r1 r2 r3 v412 v423 v490 v497_2 v497_3) Q) := by
  subst g2 g3
  rw [k0_part13_eq_skeleton]; unfold k0_part13_skel
  simp only [Prog.lift, Prog.bind_op, Prog.bind_ret, Prog.pure_eq_ret]
  have e7 : extractAt ![0] (k0_pay146 v412) inpos_S1_p0 = bw ids 7 := hv ▸ word_eq ids 6 (by omega) slices_S16_o6_S1 inpos_S1_p0
  have e8 : extractAt ![0] (k0_pay155 v412) inpos_S1_p0 = bw ids 8 := hv ▸ word_eq ids 7 (by omega) slices_S16_o7_S1 inpos_S1_p0
  have e9 : extractAt ![0] (k0_pay164 v412) inpos_S1_p0 = bw ids 9 := hv ▸ word_eq ids 8 (by omega) slices_S16_o8_S1 inpos_S1_p0
  have c18 : k0_chk18 v490 (extractAt ![0] (k0_pay146 v412) inpos_S1_p0) := chk' e6 e7 (bound_le _ _) (bound_le _ _)
  have c19 : k0_chk19 (extractAt ![0] (k0_pay146 v412) inpos_S1_p0) (extractAt ![0] (k0_pay155 v412) inpos_S1_p0) := chk' e7 e8 (bound_le _ _) (bound_le _ _)
  have c20 : k0_chk20 (extractAt ![0] (k0_pay155 v412) inpos_S1_p0) (extractAt ![0] (k0_pay164 v412) inpos_S1_p0) := chk' e8 e9 (bound_le _ _) (bound_le _ _)
  iintro ⟨H, Ha⟩ Hk
  iapply (wp_col d i m8 _ ids 22 23 5 6 32 352 (by decide)) $$ Ha; iintro Ha
  iapply (wp_col d i m8 _ ids 23 24 5 6 48 368 (by decide)) $$ Ha; iintro Ha
  iapply (wp_chk d i c18)
  iapply (wp_loops d i m6 f6 ids 6 7 e6 e7 (k0_t13_loop _ _) (k0_t14_loop _ _) (k0_off15 _ _) (k0_off15_inb _ _ c18) rfl rfl (fun _ _ => rfl) (fun _ _ _ _ _ => rfl) hz) $$ H; iintro H
  dsimp only
  iapply (wp_four d i m8 _ ids 6 7 24 28 384 400 416 432 (by decide)) $$ Ha; iintro Ha
  iapply (wp_chk d i c19)
  iapply (wp_loops d i m6 f6 ids 7 8 e7 e8 (k0_t15_loop _ _) (k0_t16_loop _ _) (k0_off17 _ _) (k0_off17_inb _ _ c19) rfl rfl (fun _ _ => rfl) (fun _ _ _ _ _ => rfl) hz) $$ H; iintro H
  dsimp only
  iapply (wp_four d i m8 _ ids 7 8 28 32 448 464 480 496 (by decide)) $$ Ha; iintro Ha
  iapply (wp_chk d i c20)
  iapply (wp_end d i)
  iapply Hk $$ [] H Ha
  ipureintro; exact ⟨e8, e9⟩

include hv hz in
/-- Segments 8 and 9, and the loops of segment 10. -/
theorem part14 {v516 v529 : BitVec 32} (e8 : v516 = bw ids 8) (e9 : v529 = bw ids 9) {k0_hw20 : k0_chk20 v516 v529} {v530 : BitVec 32}
    {Q : (Σ' (v555 : BitVec 32) (v562_0 : FVec F S16 .f32) (v562_1 : FVec F S16 .f32) (v562_2 : FVec F S16 .f32), FVec F S16 .f32) → sProp (MT nD τ sig (HIx 1) (Elt F) ℕ UU ℕ)} :
    iprop(rowsP d i m6 f6 ∗ acc 32) ⊢ iprop((∀ z, ⌜z.1 = bw ids 11 ∧ z.2.1 = accV (rowsOf d i m6 f6) 0 (bound ids 10) (bound ids 11 - bound ids 10) ∧ z.2.2.1 = accV (rowsOf d i m6 f6) 16 (bound ids 10) (bound ids 11 - bound ids 10) ∧ z.2.2.2.1 = accV (rowsOf d i m6 f6) 32 (bound ids 10) (bound ids 11 - bound ids 10) ∧ z.2.2.2.2 = accV (rowsOf d i m6 f6) 48 (bound ids 10) (bound ids 11 - bound ids 10)⌝ -∗ rowsP d i m6 f6 -∗ acc 40 -∗ Q z)
      -∗ wpT d i (k0_part14 (F := F) i arg2 harg2 arg3 harg3 arg4 harg4 arg5 harg5 m6 h6 m7 h7 m8 h8 m9 h9 m10 h10 r0 r1 r2 r3 v412 v423 v516 v529 k0_hw20 v530) Q) := by
  rw [k0_part14_eq_skeleton]; unfold k0_part14_skel
  simp only [Prog.lift, Prog.bind_op, Prog.bind_ret, Prog.pure_eq_ret]
  have e10 : extractAt ![0] (k0_pay173 v412) inpos_S1_p0 = bw ids 10 := hv ▸ word_eq ids 9 (by omega) slices_S16_o9_S1 inpos_S1_p0
  have e11 : extractAt ![0] (k0_pay182 v412) inpos_S1_p0 = bw ids 11 := hv ▸ word_eq ids 10 (by omega) slices_S16_o10_S1 inpos_S1_p0
  have c21 : k0_chk21 v529 (extractAt ![0] (k0_pay173 v412) inpos_S1_p0) := chk' e9 e10 (bound_le _ _) (bound_le _ _)
  have c22 : k0_chk22 (extractAt ![0] (k0_pay173 v412) inpos_S1_p0) (extractAt ![0] (k0_pay182 v412) inpos_S1_p0) := chk' e10 e11 (bound_le _ _) (bound_le _ _)
  iintro ⟨H, Ha⟩ Hk
  iapply (wp_loops d i m6 f6 ids 8 9 e8 e9 (k0_t17_loop _ _) (k0_t18_loop _ _) (k0_off19 _ _) (k0_off19_inb _ _ k0_hw20) rfl rfl (fun _ _ => rfl) (fun _ _ _ _ _ => rfl) hz) $$ H; iintro H
  dsimp only
  iapply (wp_four d i m8 _ ids 8 9 32 36 512 528 544 560 (by decide)) $$ Ha; iintro Ha
  iapply (wp_chk d i c21)
  iapply (wp_loops d i m6 f6 ids 9 10 e9 e10 (k0_t19_loop _ _) (k0_t20_loop _ _) (k0_off21 _ _) (k0_off21_inb _ _ c21) rfl rfl (fun _ _ => rfl) (fun _ _ _ _ _ => rfl) hz) $$ H; iintro H
  dsimp only
  iapply (wp_four d i m8 _ ids 9 10 36 40 576 592 608 624 (by decide)) $$ Ha; iintro Ha
  iapply (wp_chk d i c22)
  iapply (wp_loops d i m6 f6 ids 10 11 e10 e11 (k0_t21_loop _ _) (k0_t22_loop _ _) (k0_off23 _ _) (k0_off23_inb _ _ c22) rfl rfl (fun _ _ => rfl) (fun _ _ _ _ _ => rfl) hz) $$ H; iintro H
  dsimp only
  iapply (wp_peek d i m8 _ ids 40 640) $$ Ha; iintro Ha
  iapply (wp_end d i)
  iapply Hk $$ [] H Ha
  ipureintro; exact ⟨e11, rfl, rfl, rfl, rfl⟩

include hv hz in
/-- Segment 10's sums stored, and segments 11 and 12. -/
theorem part15 {v555 : BitVec 32} (e11 : v555 = bw ids 11) {w0 w1 w2 w3 : FVec F S16 .f32} (g0 : w0 = accV (rowsOf d i m6 f6) 0 (bound ids 10) (bound ids 11 - bound ids 10))
    (g1 : w1 = accV (rowsOf d i m6 f6) 16 (bound ids 10) (bound ids 11 - bound ids 10)) (g2 : w2 = accV (rowsOf d i m6 f6) 32 (bound ids 10) (bound ids 11 - bound ids 10)) (g3 : w3 = accV (rowsOf d i m6 f6) 48 (bound ids 10) (bound ids 11 - bound ids 10))
    {Q : (BitVec 32) → sProp (MT nD τ sig (HIx 1) (Elt F) ℕ UU ℕ)} :
    iprop(rowsP d i m6 f6 ∗ acc 40) ⊢ iprop((∀ z, ⌜z = bw ids 13⌝ -∗ rowsP d i m6 f6 -∗ acc 52 -∗ Q z)
      -∗ wpT d i (k0_part15 (F := F) i arg2 harg2 arg3 harg3 arg4 harg4 arg5 harg5 m6 h6 m7 h7 m8 h8 m9 h9 m10 h10 r0 r1 r2 r3 v412 v423 v555 w0 w1 w2 w3) Q) := by
  subst g0 g1 g2 g3
  rw [k0_part15_eq_skeleton]; unfold k0_part15_skel
  simp only [Prog.lift, Prog.bind_op, Prog.bind_ret, Prog.pure_eq_ret]
  have e12 : extractAt ![0] (k0_pay191 v412) inpos_S1_p0 = bw ids 12 := hv ▸ word_eq ids 11 (by omega) slices_S16_o11_S1 inpos_S1_p0
  have e13 : extractAt ![0] (k0_pay200 v412) inpos_S1_p0 = bw ids 13 := hv ▸ word_eq ids 12 (by omega) slices_S16_o12_S1 inpos_S1_p0
  have c23 : k0_chk23 v555 (extractAt ![0] (k0_pay191 v412) inpos_S1_p0) := chk' e11 e12 (bound_le _ _) (bound_le _ _)
  have c24 : k0_chk24 (extractAt ![0] (k0_pay191 v412) inpos_S1_p0) (extractAt ![0] (k0_pay200 v412) inpos_S1_p0) := chk' e12 e13 (bound_le _ _) (bound_le _ _)
  iintro ⟨H, Ha⟩ Hk
  iapply (wp_last d i m8 _ ids 40 41 10 11 0 640 (by decide)) $$ Ha; iintro Ha
  iapply (wp_col d i m8 _ ids 41 42 10 11 16 656 (by decide)) $$ Ha; iintro Ha
  iapply (wp_col d i m8 _ ids 42 43 10 11 32 672 (by decide)) $$ Ha; iintro Ha
  iapply (wp_col d i m8 _ ids 43 44 10 11 48 688 (by decide)) $$ Ha; iintro Ha
  iapply (wp_chk d i c23)
  iapply (wp_loops d i m6 f6 ids 11 12 e11 e12 (k0_t23_loop _ _) (k0_t24_loop _ _) (k0_off25 _ _) (k0_off25_inb _ _ c23) rfl rfl (fun _ _ => rfl) (fun _ _ _ _ _ => rfl) hz) $$ H; iintro H
  dsimp only
  iapply (wp_four d i m8 _ ids 11 12 44 48 704 720 736 752 (by decide)) $$ Ha; iintro Ha
  iapply (wp_chk d i c24)
  iapply (wp_loops d i m6 f6 ids 12 13 e12 e13 (k0_t25_loop _ _) (k0_t26_loop _ _) (k0_off27 _ _) (k0_off27_inb _ _ c24) rfl rfl (fun _ _ => rfl) (fun _ _ _ _ _ => rfl) hz) $$ H; iintro H
  dsimp only
  iapply (wp_four d i m8 _ ids 12 13 48 52 768 784 800 816 (by decide)) $$ Ha; iintro Ha
  iapply (wp_end d i)
  iapply Hk $$ [] H Ha
  ipureintro; exact e13

include hv hz in
/-- Segments 13 and 14, and segment 15's loop over its rows. -/
theorem part16 {v581 : BitVec 32} (e13 : v581 = bw ids 13)
    {Q : (Σ' (v594 : BitVec 32) (v607 : BitVec 32) (k0_hw26 : k0_chk26 v594 v607) (v623 : BitVec 32) (v624_0 : FVec F S16 .f32) (v624_1 : FVec F S16 .f32) (v624_2 : FVec F S16 .f32) (v624_3 : FVec F S16 .f32), BitVec 32) → sProp (MT nD τ sig (HIx 1) (Elt F) ℕ UU ℕ)} :
    iprop(rowsP d i m6 f6 ∗ acc 52) ⊢ iprop((∀ z, ⌜z.2.2.2.2.1 = accV (rowsOf d i m6 f6) 0 (bound ids 15) (bound ids 16 - bound ids 15) ∧ z.2.2.2.2.2.1 = accV (rowsOf d i m6 f6) 16 (bound ids 15) (bound ids 16 - bound ids 15) ∧ z.2.2.2.2.2.2.1 = accV (rowsOf d i m6 f6) 32 (bound ids 15) (bound ids 16 - bound ids 15) ∧ z.2.2.2.2.2.2.2.1 = accV (rowsOf d i m6 f6) 48 (bound ids 15) (bound ids 16 - bound ids 15)⌝ -∗ rowsP d i m6 f6 -∗ acc 60 -∗ Q z)
      -∗ wpT d i (k0_part16 (F := F) i arg2 harg2 arg3 harg3 arg4 harg4 arg5 harg5 m6 h6 m7 h7 m8 h8 m9 h9 m10 h10 r0 r1 r2 r3 v412 v423 v581) Q) := by
  rw [k0_part16_eq_skeleton]; unfold k0_part16_skel
  simp only [Prog.lift, Prog.bind_op, Prog.bind_ret, Prog.pure_eq_ret]
  have e14 : extractAt ![0] (k0_pay209 v412) inpos_S1_p0 = bw ids 14 := hv ▸ word_eq ids 13 (by omega) slices_S16_o13_S1 inpos_S1_p0
  have e15 : extractAt ![0] (k0_pay218 v412) inpos_S1_p0 = bw ids 15 := hv ▸ word_eq ids 14 (by omega) slices_S16_o14_S1 inpos_S1_p0
  have c25 : k0_chk25 v581 (extractAt ![0] (k0_pay209 v412) inpos_S1_p0) := chk' e13 e14 (bound_le _ _) (bound_le _ _)
  have e16 : (1024#32 : BitVec 32) = bw ids 16 := by show _ = BitVec.ofNat 32 (bound ids 16); rw [bound_last]
  have c26 : k0_chk26 (extractAt ![0] (k0_pay209 v412) inpos_S1_p0) (extractAt ![0] (k0_pay218 v412) inpos_S1_p0) :=
    have ha := chk' e14 e15 (bound_le _ _) (bound_le _ _)
    have hb := chk' e15 e16 (bound_le _ _) (bound_le _ _)
    ⟨ha.1, ha.2.1, ha.2.2.1, ha.2.2.2, hb.1, hb.2.1, hb.2.2.1, hb.2.2.2⟩
  iintro ⟨H, Ha⟩ Hk
  iapply (wp_chk d i c25)
  iapply (wp_loops d i m6 f6 ids 13 14 e13 e14 (k0_t27_loop _ _) (k0_t28_loop _ _) (k0_off29 _ _) (k0_off29_inb _ _ c25) rfl rfl (fun _ _ => rfl) (fun _ _ _ _ _ => rfl) hz) $$ H; iintro H
  dsimp only
  iapply (wp_four d i m8 _ ids 13 14 52 56 832 848 864 880 (by decide)) $$ Ha; iintro Ha
  iapply (wp_chk d i c26)
  iapply (wp_loops d i m6 f6 ids 14 15 e14 e15 (k0_t29_loop _ _) (k0_t30_loop _ _) (k0_off31 _ _) (k0_off31_inb _ _ c26) rfl rfl (fun _ _ => rfl) (fun _ _ _ _ _ => rfl) hz) $$ H; iintro H
  dsimp only
  iapply (wp_four d i m8 _ ids 14 15 56 60 896 912 928 944 (by decide)) $$ Ha; iintro Ha
  iapply (wp_rows d i m6 f6 (k0_t31_loop _) _ _ (bound_le ids 16) (mainL_trips' e15 e16 (bound_le ids 15) (bound_le ids 16)) (k0_off33 _) (fun _ _ h hc => segOff_eq' e15 h hc)
    (fun k => k0_off33_inb _ _ c26 k 0) (fun k => k0_off33_inb _ _ c26 k 1) (fun k => k0_off33_inb _ _ c26 k 2) (fun k => k0_off33_inb _ _ c26 k 3) (fun _ _ _ _ _ => rfl) _ (hz ▸ rfl)) $$ H; iintro H
  dsimp only
  iapply (wp_end d i)
  iapply Hk $$ [] H Ha
  ipureintro; exact ⟨rfl, rfl, rfl, rfl⟩

end Cert.Proof.I

end
-- ==== Proof.ISearch.lean ====
/- The search of a tile's ids, piece by piece: each piece runs rounds of the search of Bisect and leaves the state the next
   one takes; the last one also leaves the counts and the first segment's sums. -/
module

public import proofs.«01_k».proof.Proof.IRows

@[expose] public section

set_option maxRecDepth 16384
set_option maxHeartbeats 400000

noncomputable section

namespace Cert.Proof.I

attribute [local irreducible] Cert.Values.accV Cert.Values.bound

open Cert.KernelIdeal Cert.KernelIdeal.Gen Cert.Bisect Cert.Values

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)
variable {arg2 : Memref sig .scVector .hbm S2097152 .f32} {harg2 : arg2.IsWhole} {arg3 : Memref sig .scVector .hbm S32768 .i32} {harg3 : arg3.IsWhole}
  {arg4 : Memref sig .scVector .hbm S32768 .f32} {harg4 : arg4.IsWhole} {arg5 : Memref sig .scVector .hbm S512 .f32} {harg5 : arg5.IsWhole}
  {m6 : Memref sig .scVector .vmem S65536 .f32} {h6 : m6.IsWhole} (m7 : Memref sig .scVector .vmem S1024 .i32) {h7 : m7.IsWhole}
  {m8 : Memref sig .scVector .vmem S1024 .f32} {h8 : m8.IsWhole} {m9 : Memref sig .scVector .vmem S16 .f32} {h9 : m9.IsWhole}
  {m10 : Memref sig .scVector .vmem S32 .i32} {h10 : m10.IsWhole} {r0 r1 r2 r3 : DmaSems sig S_}
variable (f7 : Buf (Elt F) (m7.view.loc (vt d i)))

/-- The ids held whole. -/
abbrev segP : sProp 𝕄 := m7.view.loc (vt d i) ↦[m7.view.set]{fullShare} f7

/-- Lanes that are 2, 1 or 0. -/
abbrev two : BitVec 32 := 2#32
abbrev ones : IVec V16 32 := broadcast V16 1#32
abbrev zeros : IVec V16 32 := broadcast V16 0#32

local notation "I" => idsOf d i m7 f7

/-- The state of the lanes before a probe is computed: the ends, whether they differ, and the sum. -/
abbrev bel (ids : V1024.Idx → BitVec 32) (n : ℕ) : IVec V16 1 := belV (lo ids n) (hi ids n)
abbrev sum (ids : V1024.Idx → BitVec 32) (n : ℕ) : IVec V16 32 := addi (lo ids n) (hi ids n)
abbrev ltK (ids : V1024.Idx → BitVec 32) (n : ℕ) : IVec V16 1 := ltV keyV (got ids n)

/-- Round 0, and the probe of round 1. -/
theorem part2 {Q : _ → sProp (MT nD τ sig (HIx 1) (Elt F) ℕ UU ℕ)} :
    segP d i m7 f7 ⊢ iprop((∀ z, ⌜z = ⟨lo I 1, hi I 1, bel I 1, mid I 1, ltK I 1, andi (bel I 1) (ltK I 1), addi (mid I 1) ones⟩⌝ -∗ segP d i m7 f7 -∗ Q z)
      -∗ wpT d i (k0_part2 (F := F) i arg2 harg2 arg3 harg3 arg4 harg4 arg5 harg5 m6 h6 m7 h7 m8 h8 m9 h9 m10 h10 r0 r1 r2 r3 keyV (lo I 0) (hi I 0) (bel I 0) (halfV (sum I 0)) (adjV (sum I 0)) ones) Q) := by
  rw [k0_part2_eq_skeleton]; unfold k0_part2_skel
  simp only [Prog.lift, Prog.bind_op, Prog.bind_ret, Prog.pure_eq_ret]
  iintro H Hk
  iapply (wp_chk d i (mid_ok I 0))
  iapply (wp_probe d i m7 f7 0 _ rfl) $$ H; iintro H
  iapply (wp_chk d i (mid_ok I 1))
  iapply (wp_probe d i m7 f7 1 _ rfl) $$ H; iintro H
  iapply (wp_end d i)
  iapply Hk $$ [] H
  ipureintro; rfl

/-- The end of round 1, and round 2. -/
theorem part3 {Q : _ → sProp (MT nD τ sig (HIx 1) (Elt F) ℕ UU ℕ)} :
    segP d i m7 f7 ⊢ iprop((∀ z, ⌜z = ⟨lo I 3, hi I 3, bel I 3, sum I 3, two, halfV (sum I 3), zeros⟩⌝ -∗ segP d i m7 f7 -∗ Q z)
      -∗ wpT d i (k0_part3 (F := F) i arg2 harg2 arg3 harg3 arg4 harg4 arg5 harg5 m6 h6 m7 h7 m8 h8 m9 h9 m10 h10 r0 r1 r2 r3 keyV (lo I 1) (hi I 1) (bel I 1) (mid I 1) (ltK I 1) (andi (bel I 1) (ltK I 1)) (addi (mid I 1) ones)) Q) := by
  rw [k0_part3_eq_skeleton]; unfold k0_part3_skel
  simp only [Prog.lift, Prog.bind_op, Prog.bind_ret, Prog.pure_eq_ret]
  iintro H Hk
  iapply (wp_chk d i (mid_ok I 2))
  iapply (wp_probe d i m7 f7 2 _ rfl) $$ H; iintro H
  iapply (wp_end d i)
  iapply Hk $$ [] H
  ipureintro; rfl

/-- Round 3. -/
theorem part4 {Q : _ → sProp (MT nD τ sig (HIx 1) (Elt F) ℕ UU ℕ)} :
    segP d i m7 f7 ⊢ iprop((∀ z, ⌜z = ⟨lo I 4, hi I 4, bel I 4, sum I 4, two, halfV (sum I 4), sgnV (sum I 4), Scalar.extui (Scalar.cmpi .sgt 2#32 0#32), Scalar.cmpi .slt 2#32 0#32⟩⌝ -∗ segP d i m7 f7 -∗ Q z)
      -∗ wpT d i (k0_part4 (F := F) i arg2 harg2 arg3 harg3 arg4 harg4 arg5 harg5 m6 h6 m7 h7 m8 h8 m9 h9 m10 h10 r0 r1 r2 r3 keyV (lo I 3) (hi I 3) (bel I 3) (sum I 3) two (halfV (sum I 3)) zeros) Q) := by
  rw [k0_part4_eq_skeleton]; unfold k0_part4_skel
  simp only [Prog.lift, Prog.bind_op, Prog.bind_ret, Prog.pure_eq_ret]
  iintro H Hk
  iapply (wp_chk d i (mid_ok I 3))
  iapply (wp_probe d i m7 f7 3 _ rfl) $$ H; iintro H
  iapply (wp_end d i)
  iapply Hk $$ [] H
  ipureintro; rfl

/-- Round 4. -/
theorem part5 {Q : _ → sProp (MT nD τ sig (HIx 1) (Elt F) ℕ UU ℕ)} :
    segP d i m7 f7 ⊢ iprop((∀ z, ⌜z = ⟨lo I 5, hi I 5, bel I 5, halfV (sum I 5), adjV (sum I 5), ones⟩⌝ -∗ segP d i m7 f7 -∗ Q z)
      -∗ wpT d i (k0_part5 (F := F) i arg2 harg2 arg3 harg3 arg4 harg4 arg5 harg5 m6 h6 m7 h7 m8 h8 m9 h9 m10 h10 r0 r1 r2 r3 keyV (lo I 4) (hi I 4) (bel I 4) (sum I 4) two (halfV (sum I 4)) (sgnV (sum I 4)) (Scalar.extui (Scalar.cmpi .sgt 2#32 0#32)) (Scalar.cmpi .slt 2#32 0#32)) Q) := by
  rw [k0_part5_eq_skeleton]; unfold k0_part5_skel
  simp only [Prog.lift, Prog.bind_op, Prog.bind_ret, Prog.pure_eq_ret]
  iintro H Hk
  iapply (wp_chk d i (mid_ok I 4))
  iapply (wp_probe d i m7 f7 4 _ rfl) $$ H; iintro H
  iapply (wp_end d i)
  iapply Hk $$ [] H
  ipureintro; rfl

/-- Round 5, and the probe of round 6. -/
theorem part6 {Q : _ → sProp (MT nD τ sig (HIx 1) (Elt F) ℕ UU ℕ)} :
    segP d i m7 f7 ⊢ iprop((∀ z, ⌜z = ⟨lo I 6, hi I 6, bel I 6, mid I 6, ltK I 6, andi (bel I 6) (ltK I 6), addi (mid I 6) ones⟩⌝ -∗ segP d i m7 f7 -∗ Q z)
      -∗ wpT d i (k0_part6 (F := F) i arg2 harg2 arg3 harg3 arg4 harg4 arg5 harg5 m6 h6 m7 h7 m8 h8 m9 h9 m10 h10 r0 r1 r2 r3 keyV (lo I 5) (hi I 5) (bel I 5) (halfV (sum I 5)) (adjV (sum I 5)) ones) Q) := by
  rw [k0_part6_eq_skeleton]; unfold k0_part6_skel
  simp only [Prog.lift, Prog.bind_op, Prog.bind_ret, Prog.pure_eq_ret]
  iintro H Hk
  iapply (wp_chk d i (mid_ok I 5))
  iapply (wp_probe d i m7 f7 5 _ rfl) $$ H; iintro H
  iapply (wp_chk d i (mid_ok I 6))
  iapply (wp_probe d i m7 f7 6 _ rfl) $$ H; iintro H
  iapply (wp_end d i)
  iapply Hk $$ [] H
  ipureintro; rfl

/-- The end of round 6, and round 7. -/
theorem part7 {Q : _ → sProp (MT nD τ sig (HIx 1) (Elt F) ℕ UU ℕ)} :
    segP d i m7 f7 ⊢ iprop((∀ z, ⌜z = ⟨lo I 8, hi I 8, bel I 8, sum I 8, two, halfV (sum I 8), zeros⟩⌝ -∗ segP d i m7 f7 -∗ Q z)
      -∗ wpT d i (k0_part7 (F := F) i arg2 harg2 arg3 harg3 arg4 harg4 arg5 harg5 m6 h6 m7 h7 m8 h8 m9 h9 m10 h10 r0 r1 r2 r3 keyV (lo I 6) (hi I 6) (bel I 6) (mid I 6) (ltK I 6) (andi (bel I 6) (ltK I 6)) (addi (mid I 6) ones)) Q) := by
  rw [k0_part7_eq_skeleton]; unfold k0_part7_skel
  simp only [Prog.lift, Prog.bind_op, Prog.bind_ret, Prog.pure_eq_ret]
  iintro H Hk
  iapply (wp_chk d i (mid_ok I 7))
  iapply (wp_probe d i m7 f7 7 _ rfl) $$ H; iintro H
  iapply (wp_end d i)
  iapply Hk $$ [] H
  ipureintro; rfl

/-- Round 8. -/
theorem part8 {Q : _ → sProp (MT nD τ sig (HIx 1) (Elt F) ℕ UU ℕ)} :
    segP d i m7 f7 ⊢ iprop((∀ z, ⌜z = ⟨lo I 9, hi I 9, bel I 9, sum I 9, two, halfV (sum I 9), sgnV (sum I 9), Scalar.extui (Scalar.cmpi .sgt 2#32 0#32), Scalar.cmpi .slt 2#32 0#32⟩⌝ -∗ segP d i m7 f7 -∗ Q z)
      -∗ wpT d i (k0_part8 (F := F) i arg2 harg2 arg3 harg3 arg4 harg4 arg5 harg5 m6 h6 m7 h7 m8 h8 m9 h9 m10 h10 r0 r1 r2 r3 keyV (lo I 8) (hi I 8) (bel I 8) (sum I 8) two (halfV (sum I 8)) zeros) Q) := by
  rw [k0_part8_eq_skeleton]; unfold k0_part8_skel
  simp only [Prog.lift, Prog.bind_op, Prog.bind_ret, Prog.pure_eq_ret]
  iintro H Hk
  iapply (wp_chk d i (mid_ok I 8))
  iapply (wp_probe d i m7 f7 8 _ rfl) $$ H; iintro H
  iapply (wp_end d i)
  iapply Hk $$ [] H
  ipureintro; rfl

/-- Round 9. -/
theorem part9 {Q : _ → sProp (MT nD τ sig (HIx 1) (Elt F) ℕ UU ℕ)} :
    segP d i m7 f7 ⊢ iprop((∀ z, ⌜z = ⟨lo I 10, hi I 10, bel I 10, halfV (sum I 10), adjV (sum I 10), ones⟩⌝ -∗ segP d i m7 f7 -∗ Q z)
      -∗ wpT d i (k0_part9 (F := F) i arg2 harg2 arg3 harg3 arg4 harg4 arg5 harg5 m6 h6 m7 h7 m8 h8 m9 h9 m10 h10 r0 r1 r2 r3 keyV (lo I 9) (hi I 9) (bel I 9) (sum I 9) two (halfV (sum I 9)) (sgnV (sum I 9)) (Scalar.extui (Scalar.cmpi .sgt 2#32 0#32)) (Scalar.cmpi .slt 2#32 0#32)) Q) := by
  rw [k0_part9_eq_skeleton]; unfold k0_part9_skel
  simp only [Prog.lift, Prog.bind_op, Prog.bind_ret, Prog.pure_eq_ret]
  iintro H Hk
  iapply (wp_chk d i (mid_ok I 9))
  iapply (wp_probe d i m7 f7 9 _ rfl) $$ H; iintro H
  iapply (wp_end d i)
  iapply Hk $$ [] H
  ipureintro; rfl

/-! ## The counts -/

/-- Word `l` of the ends shifted down a lane, lane 0 cleared, is the number of rows below key `l`. -/
theorem shifted (f10 : Buf (Elt F) (m10.view.loc (vt d i))) (ids : V1024.Idx → BitVec 32) (b0 : ∀ a, (![0] : Fin 1 → ℕ) a + S16.size a ≤ S32.size a)
    (b15 : ∀ a, (![15] : Fin 1 → ℕ) a + S16.size a ≤ S32.size a) (b16 : ∀ a, (![16] : Fin 1 → ℕ) a + S16.size a ≤ S32.size a) (l : V16.Idx) :
    m10.view.readAt (Elt F) (Rect.unit (s := S32) ![15] S16.size b15).toLoadRect
        ((m10.access (Rect.unit (s := S32) ![16] S16.size b16)).write (Elt F)
          ((m10.access (Rect.unit (s := S32) ![0] S16.size b0)).write (Elt F) f10 (zeros : IVec V16 32) Finset.univ) (lo ids 11 : IVec V16 32) Finset.univ) l
      = cntW ids (l 0).val := by
  have hl : (l 0).val < 16 := (l 0).isLt
  rw [View.readAt_apply]
  by_cases h : (l 0).val = 0
  · have hw : (Rect.unit (s := S32) ![15] S16.size b15).toLoadRect.idx l = (Rect.unit (s := S32) ![0] S16.size b0).emb (lane 15) := by
      funext a; fin_cases a
      apply Fin.ext
      show 15 + 1 * (l 0).val = 0 + 1 * (15 % 16)
      omega
    rw [hw]
    refine (View.read_slice_write_of_not_mem (v := m10.view) (Rect.unit (s := S32) ![16] S16.size b16) _ _ Finset.univ (fun hm => by
        obtain ⟨l, -, hl⟩ := Finset.mem_map.mp hm
        have e : 16 + 1 * (l 0).val = 0 + 1 * (15 % 16) := congrArg (fun z : S32.Idx => (z 0).val) hl
        omega)).trans ?_
    refine (View.read_slice_write_emb (v := m10.view) (Rect.unit (s := S32) ![0] S16.size b0) f10 _ (M := Finset.univ) (x := lane 15) (Finset.mem_univ _)).trans ?_
    rw [cntW, if_pos h]; rfl
  · have hw : (Rect.unit (s := S32) ![15] S16.size b15).toLoadRect.idx l = (Rect.unit (s := S32) ![16] S16.size b16).emb (lane ((l 0).val - 1)) := by
      funext a; fin_cases a
      apply Fin.ext
      show 15 + 1 * (l 0).val = 16 + 1 * (((l 0).val - 1) % 16)
      omega
    rw [hw]
    refine (View.read_slice_write_emb (v := m10.view) (Rect.unit (s := S32) ![16] S16.size b16) _ _ (M := Finset.univ) (x := lane ((l 0).val - 1)) (Finset.mem_univ _)).trans ?_
    rw [lo_end, keyV_apply, cntW, if_neg h]
    show BitVec.ofNat 32 (cut (nth ids) (BitVec.ofNat 32 (((l 0).val - 1) % 16 + 1))) = _
    rw [show ((l 0).val - 1) % 16 + 1 = (l 0).val by omega]

/-- The counts are the differences of the ends and the ends shifted. -/
theorem counts (ids : V1024.Idx → BitVec 32) (w : V16.Idx → BitVec 32) (hw : ∀ l, w l = cntW ids (l 0).val) :
    (sitofp .f32 (subi (lo ids 11) w) : V16.Idx → F .f32) = tileCnt ids := by
  obtain rfl : w = fun l => cntW ids (l 0).val := funext hw
  have h : lo ids 11 = fun l : V16.Idx => cntW ids ((l 0).val + 1) := by
    funext l
    rw [lo_end, keyV_apply, cntW, if_neg (by omega)]
  rw [h]; rfl

/-- Sixteen words, stored over a buffer of sixteen, are what it holds. -/
theorem read_all (f9 : Buf (Elt F) (m9.view.loc (vt d i))) (b : ∀ a, (![0] : Fin 1 → ℕ) a + S16.size a ≤ S16.size a) (w : V16.Idx → F .f32) :
    m9.view.read (Elt F) ((m9.access (Rect.unit (s := S16) ![0] S16.size b)).write (Elt F) f9 w Finset.univ) = w := by
  funext l
  have hl : (l 0).val < 16 := (l 0).isLt
  have e : l = (Rect.unit (s := S16) ![0] S16.size b).emb l := by
    funext a; fin_cases a
    apply Fin.ext
    show (l 0).val = 0 + 1 * (l 0).val
    omega
  have hr := View.read_slice_write_emb (v := m9.view) (Rect.unit (s := S16) ![0] S16.size b) f9 w (M := Finset.univ) (x := l) (Finset.mem_univ _)
  rw [← e] at hr
  exact hr

/-- Round 10, the counts, and the first segment. -/
theorem part10 (f6 : Buf (Elt F) (m6.view.loc (vt d i))) (f9 : Buf (Elt F) (m9.view.loc (vt d i))) (f10 : Buf (Elt F) (m10.view.loc (vt d i)))
    {Q : _ → sProp (MT nD τ sig (HIx 1) (Elt F) ℕ UU ℕ)} :
    iprop(segP d i m7 f7 ∗ (m6.view.loc (vt d i) ↦[m6.view.set]{fullShare} f6) ∗ (m9.view.loc (vt d i) ↦[m9.view.set]{fullShare} f9)
        ∗ (m10.view.loc (vt d i) ↦[m10.view.set]{fullShare} f10) ∗ accI d i m8 (rowsOf d i m6 f6) I 0)
      ⊢ iprop((∀ z, ⌜z.1 = lo I 11 ∧ z.2.1 = zeroV ∧ z.2.2 = BitVec.ofNat 32 (bound I 1)⌝ -∗ segP d i m7 f7 -∗ (m6.view.loc (vt d i) ↦[m6.view.set]{fullShare} f6)
          -∗ (∃ g, (m9.view.loc (vt d i) ↦[m9.view.set]{fullShare} g) ∗ ⌜m9.view.read (Elt F) g = tileCnt I⌝)
          -∗ (∃ g, m10.view.loc (vt d i) ↦[m10.view.set]{fullShare} g) -∗ accI d i m8 (rowsOf d i m6 f6) I 4 -∗ Q z)
        -∗ wpT d i (k0_part10 (F := F) i arg2 harg2 arg3 harg3 arg4 harg4 arg5 harg5 m6 h6 m7 h7 m8 h8 m9 h9 m10 h10 r0 r1 r2 r3 keyV (lo I 10) (hi I 10) (bel I 10) (halfV (sum I 10)) (adjV (sum I 10)) ones) Q) := by
  rw [k0_part10_eq_skeleton]; unfold k0_part10_skel
  simp only [Prog.lift, Prog.bind_op, Prog.bind_ret, Prog.pure_eq_ret]
  have e11 : k0_pay88 (F := F) keyV (lo I 10) (bel I 10) (k0_pay87 (halfV (sum I 10)) (adjV (sum I 10)) ones) (got I 10) = lo I 11 := rfl
  have e0 : (0#32 : BitVec 32) = BitVec.ofNat 32 (bound I 0) := by rw [bound_first]
  have e1 : extractAt ![0] (k0_pay92 (F := F) keyV (lo I 10) (bel I 10) (k0_pay87 (halfV (sum I 10)) (adjV (sum I 10)) ones) (got I 10)) inpos_S1_p0
      = BitVec.ofNat 32 (bound I 1) := word_eq I 0 (by omega) slices_S16_o0_S1 inpos_S1_p0
  have c12 : k0_chk12 (extractAt ![0] (k0_pay92 (F := F) keyV (lo I 10) (bel I 10) (k0_pay87 (halfV (sum I 10)) (adjV (sum I 10)) ones) (got I 10)) inpos_S1_p0) :=
    chk' e0 e1 (bound_le _ _) (bound_le _ _)
  have hz : k0_pay91 (F := F) = zeroV := rfl
  iintro ⟨H7, H6, H9, H10, Ha⟩ Hk
  iapply (wp_chk d i (mid_ok I 10))
  iapply (wp_probe d i m7 f7 10 _ rfl) $$ H7; iintro H7
  iapply (wp_load 𝒱₀ (vt d i) none Set.univ (m := m10) (S := m10.view.set) (View.setOn_subset_set _ _)) $$ H10; iintro H10
  iapply (wp_store 𝒱₀ (vt d i) none Set.univ (m := m10) (r := Rect.unit (s := S32) ![0] S16.size inb_S32_S16_0) (S := m10.view.set) ((View.setOn_subset_set _ _).trans (View.set_slice_subset _ _))) $$ H10; iintro H10
  iapply (wp_load 𝒱₀ (vt d i) none Set.univ (m := m10) (S := m10.view.set) (View.setOn_subset_set _ _)) $$ H10; iintro H10
  iapply (wp_store 𝒱₀ (vt d i) none Set.univ (m := m10) (r := Rect.unit (s := S32) ![16] S16.size inb_S32_S16_16) (S := m10.view.set) ((View.setOn_subset_set _ _).trans (View.set_slice_subset _ _))) $$ H10; iintro H10
  iapply (wp_load 𝒱₀ (vt d i) none Set.univ (m := m10) (S := m10.view.set) (View.setOn_subset_set _ _)) $$ H10; iintro H10
  iapply (wp_load 𝒱₀ (vt d i) none Set.univ (m := m9) (S := m9.view.set) (View.setOn_subset_set _ _)) $$ H9; iintro H9
  iapply (wp_store 𝒱₀ (vt d i) none Set.univ (m := m9) (r := Rect.unit (s := S16) ![0] S16.size inb_S16_S16_0) (S := m9.view.set) ((View.setOn_subset_set _ _).trans (View.set_slice_subset _ _))) $$ H9; iintro H9
  iapply (wp_chk d i c12)
  iapply (wp_loops d i m6 f6 I 0 1 e0 e1 (k0_t1_loop _) (k0_t2_loop _) (k0_off3 _) (k0_off3_inb _ c12) rfl rfl (fun _ _ => rfl) (fun _ _ _ _ _ => rfl) hz) $$ H6; iintro H6
  dsimp only
  iapply (wp_four d i m8 _ I 0 1 0 4 0 16 32 48 (by decide)) $$ Ha; iintro Ha
  iapply (wp_end d i)
  iapply Hk $$ [] H7 H6 [H9] [H10] Ha
  · ipureintro; exact ⟨e11, hz, e1⟩
  · iexists _
    isplitl [H9]; · iexact H9
    ipureintro
    exact (read_all d i _ _ _).trans (counts I _ (fun l => shifted d i f10 I inb_S32_S16_0 inb_S32_S16_15 inb_S32_S16_16 l))
  · iexists _; iexact H10

end Cert.Proof.I

end
-- ==== Proof.ITile.lean ====
/- One tile, run whole: its two fetches, the search, the segments, and its two write-outs. -/
module

public import proofs.«01_k».proof.Proof.ISegs
public import proofs.«01_k».proof.Proof.ISearch

@[expose] public section

set_option maxRecDepth 16384
set_option maxHeartbeats 400000

noncomputable section

namespace Cert.Proof.I

attribute [local irreducible] Cert.Values.accV Cert.Values.bound

open Cert.KernelIdeal Cert.KernelIdeal.Gen Cert.Bisect Cert.Values

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)
variable {arg2 : Memref sig .scVector .hbm S2097152 .f32} {harg2 : arg2.IsWhole} {arg3 : Memref sig .scVector .hbm S32768 .i32} {harg3 : arg3.IsWhole}
  {arg4 : Memref sig .scVector .hbm S32768 .f32} {harg4 : arg4.IsWhole} {arg5 : Memref sig .scVector .hbm S512 .f32} {harg5 : arg5.IsWhole}
  {m6 : Memref sig .scVector .vmem S65536 .f32} {h6 : m6.IsWhole} {m7 : Memref sig .scVector .vmem S1024 .i32} {h7 : m7.IsWhole}
  {m8 : Memref sig .scVector .vmem S1024 .f32} {h8 : m8.IsWhole} {m9 : Memref sig .scVector .vmem S16 .f32} {h9 : m9.IsWhole}
  {m10 : Memref sig .scVector .vmem S32 .i32} {h10 : m10.IsWhole} {r0 r1 r2 r3 : DmaSems sig S_}

/-- The tile's ids, rows, sums and counts in the arrays. -/
abbrev idsM (arg3 : Memref sig .scVector .hbm S32768 .i32) : Memref sig .scVector .hbm S1024 .i32 :=
  arg3.slice (Rect.unit (s := S32768) (k0_off1 i) S1024.size (k0_off1_inb i)) (fun _ => rfl)
abbrev rowsM (arg2 : Memref sig .scVector .hbm S2097152 .f32) : Memref sig .scVector .hbm S65536 .f32 :=
  arg2.slice (Rect.unit (s := S2097152) (k0_off2 i) S65536.size (k0_off2_inb i)) (fun _ => rfl)
abbrev sumsM (arg4 : Memref sig .scVector .hbm S32768 .f32) : Memref sig .scVector .hbm S1024 .f32 :=
  arg4.slice (Rect.unit (s := S32768) (k0_off35 i) S1024.size (k0_off35_inb i)) (fun _ => rfl)
abbrev cntsM (arg5 : Memref sig .scVector .hbm S512 .f32) : Memref sig .scVector .hbm S16 .f32 :=
  arg5.slice (Rect.unit (s := S512) (k0_off36 i) S16.size (k0_off36_inb i)) (fun _ => rfl)

/-- One copy between two memrefs, issued and waited for on a semaphore of its own: the destination reads what the source
    reads, and the semaphore's counter is back at zero. -/
theorem wp_copy {ms md : Space} {s : Shape} {e : EltTy} (hs : 0 < s.numel) (src : Memref sig .scVector ms s e) (dst : Memref sig .scVector md s e) (r : DmaSems sig S_)
    (fs : Buf (Elt F) (src.view.loc (vt d i))) (fd : Buf (Elt F) (dst.view.loc (vt d i)))
    (O : CellTallies nD τ sig (HIx 1)) (W : Waits sig (HIx 1)) {α : Type} {p1 p2 p3 p4 p5} {Q : α → sProp (MT nD τ sig (HIx 1) (Elt F) ℕ UU ℕ)}
    {kk : PUnit → Prog (TpuEff nD τ sig (Elt F) Λ₀ (.scVector ((i 0).castLE hcore0) ((i 1).castLE hsub0))) α} :
    iprop(Transfers.MayWaits (vt d i) (none : HIx 1) O ∗ (src.view.loc (vt d i) ↦[src.view.set]{fullShare} fs) ∗ (dst.view.loc (vt d i) ↦[dst.view.set]{fullShare} fd) ∗ semVal ((vt d i, SemLoc.dma r.sem) : GSem nD τ sig) 0 ∗ owes (vt d i) O W)
      ⊢ iprop(((src.view.loc (vt d i) ↦[src.view.set]{fullShare} fs) -∗ (∃ g, (dst.view.loc (vt d i) ↦[dst.view.set]{fullShare} g) ∗ ⌜dst.view.read (Elt F) g = src.view.read (Elt F) fs⌝) -∗ semVal ((vt d i, SemLoc.dma r.sem) : GSem nD τ sig) 0
          -∗ owes (vt d i) O (insert (SemLoc.dma r.sem, none) W) -∗ wpT d i (kk ⟨⟩) Q)
        -∗ wpT d i (.op (.enqueueDma src (.here dst) (.dma r.sem) p1 p2 p3) fun _ => .op (.waitDma2 r.sem src dst p4 p5) kk) Q) := by
  iintro ⟨#Hmw, H2, H3, Hs0, HO⟩ Hk
  unfold wpT
  sl_exec (disch := exact View.amount_pos _ _ hs)
  iapply Hk $$ H2 [H3] Hs0 HO
  iexists _
  isplitl [H3]; · iexact H3
  ipureintro
  funext x
  refine Eq.trans ?_ (View.read_writes_cons_emb (v := dst.view) fd (Rect.whole s) (src.view.read (Elt F) fs) [] x)
  congr 1
  funext a
  apply Fin.ext
  show (x a).val = 0 + 1 * (x a).val
  omega

/-- A piece run, and then the rest. -/
theorem wp_seq {α β : Type} {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β} {Q : β → sProp (MT nD τ sig (HIx 1) (Elt F) ℕ UU ℕ)} :
    wpT d i p (fun x => wpT d i (k x) Q) ⊢ wpT d i (p >>= k) Q := by
  unfold wpT; rw [wp_bind]

/-- The two fetches and their waits; the search's first state. -/
theorem part1 (g2 : Buf (Elt F) ((rowsM i arg2).view.loc (vt d i))) (g3 : Buf (Elt F) ((idsM i arg3).view.loc (vt d i)))
    (f6 : Buf (Elt F) (m6.view.loc (vt d i))) (f7 : Buf (Elt F) (m7.view.loc (vt d i)))
    (O : CellTallies nD τ sig (HIx 1)) (W : Waits sig (HIx 1))
    {Q : _ → sProp (MT nD τ sig (HIx 1) (Elt F) ℕ UU ℕ)} :
    iprop(Transfers.MayWaits (vt d i) (none : HIx 1) O ∗ ((rowsM i arg2).view.loc (vt d i) ↦[(rowsM i arg2).view.set]{fullShare} g2) ∗ ((idsM i arg3).view.loc (vt d i) ↦[(idsM i arg3).view.set]{fullShare} g3)
        ∗ (m6.view.loc (vt d i) ↦[m6.view.set]{fullShare} f6) ∗ (m7.view.loc (vt d i) ↦[m7.view.set]{fullShare} f7) ∗ semVal ((vt d i, SemLoc.dma r0.sem) : GSem nD τ sig) 0 ∗ semVal ((vt d i, SemLoc.dma r1.sem) : GSem nD τ sig) 0 ∗ owes (vt d i) O W)
      ⊢ iprop((∀ z, ⌜∀ ids, z.2 = ⟨keyV, lo ids 0, hi ids 0, bel ids 0, halfV (sum ids 0), adjV (sum ids 0), ones⟩⌝
          -∗ ((rowsM i arg2).view.loc (vt d i) ↦[(rowsM i arg2).view.set]{fullShare} g2) -∗ ((idsM i arg3).view.loc (vt d i) ↦[(idsM i arg3).view.set]{fullShare} g3)
          -∗ (∃ g, (m6.view.loc (vt d i) ↦[m6.view.set]{fullShare} g) ∗ ⌜m6.view.read (Elt F) g = (rowsM i arg2).view.read (Elt F) g2⌝)
          -∗ (∃ g, (m7.view.loc (vt d i) ↦[m7.view.set]{fullShare} g) ∗ ⌜m7.view.read (Elt F) g = (idsM i arg3).view.read (Elt F) g3⌝)
          -∗ semVal ((vt d i, SemLoc.dma r0.sem) : GSem nD τ sig) 0 -∗ semVal ((vt d i, SemLoc.dma r1.sem) : GSem nD τ sig) 0 -∗ owes (vt d i) O (insert (SemLoc.dma r1.sem, none) (insert (SemLoc.dma r0.sem, none) W)) -∗ Q z)
        -∗ wpT d i (k0_part1 (F := F) i arg2 harg2 arg3 harg3 arg4 harg4 arg5 harg5 m6 h6 m7 h7 m8 h8 m9 h9 m10 h10 r0 r1 r2 r3) Q) := by
  rw [k0_part1_eq_skeleton]; unfold k0_part1_skel
  simp only [Prog.lift, Prog.bind_op, Prog.bind_ret, Prog.pure_eq_ret]
  iintro ⟨#Hmw, H2, H3, H6, H7, Hs0, Hs1, HO⟩ Hk
  iapply (wp_copy d i (by decide) (idsM i arg3) m7 r0 g3 f7 O W) $$ [H3 H7 Hs0 HO]
  · isplitr; · iexact Hmw
    isplitl [H3]; · iexact H3
    isplitl [H7]; · iexact H7
    isplitl [Hs0]; · iexact Hs0
    iexact HO
  iintro H3 H7 Hs0 HO
  iapply (wp_copy d i (by decide) (rowsM i arg2) m6 r1 g2 f6 O _) $$ [H2 H6 Hs1 HO]
  · isplitr; · iexact Hmw
    isplitl [H2]; · iexact H2
    isplitl [H6]; · iexact H6
    isplitl [Hs1]; · iexact Hs1
    iexact HO
  iintro H2 H6 Hs1 HO
  iapply (wp_end d i)
  iapply Hk $$ [] H2 H3 H6 H7 Hs0 Hs1 HO
  ipureintro; exact fun _ => rfl

/-- What one tile hands back: the words it read, its sums and its counts, and its own buffers and semaphores. -/
def tileOut (arg2 : Memref sig .scVector .hbm S2097152 .f32) (arg3 : Memref sig .scVector .hbm S32768 .i32)
    (arg4 : Memref sig .scVector .hbm S32768 .f32) (arg5 : Memref sig .scVector .hbm S512 .f32)
    (m6 : Memref sig .scVector .vmem S65536 .f32) (m7 : Memref sig .scVector .vmem S1024 .i32) (m8 : Memref sig .scVector .vmem S1024 .f32)
    (m9 : Memref sig .scVector .vmem S16 .f32) (m10 : Memref sig .scVector .vmem S32 .i32) (r0 r1 r2 r3 : DmaSems sig S_)
    (g2 : Buf (Elt F) ((rowsM i arg2).view.loc (vt d i))) (g3 : Buf (Elt F) ((idsM i arg3).view.loc (vt d i)))
    (O : CellTallies nD τ sig (HIx 1)) (W : Waits sig (HIx 1)) : sProp 𝕄 :=
  iprop(((rowsM i arg2).view.loc (vt d i) ↦[(rowsM i arg2).view.set]{fullShare} g2) ∗ ((idsM i arg3).view.loc (vt d i) ↦[(idsM i arg3).view.set]{fullShare} g3)
    ∗ (∃ g, ((sumsM i arg4).view.loc (vt d i) ↦[(sumsM i arg4).view.set]{fullShare} g) ∗ ⌜(sumsM i arg4).view.read (Elt F) g = tileSum ((rowsM i arg2).view.read (Elt F) g2) ((idsM i arg3).view.read (Elt F) g3)⌝)
    ∗ (∃ g, ((cntsM i arg5).view.loc (vt d i) ↦[(cntsM i arg5).view.set]{fullShare} g) ∗ ⌜(cntsM i arg5).view.read (Elt F) g = tileCnt ((idsM i arg3).view.read (Elt F) g3)⌝)
    ∗ (∃ g : Buf (Elt F) (m6.view.loc (vt d i)), (m6.view.loc (vt d i) ↦[m6.view.set]{fullShare} g)) ∗ (∃ g : Buf (Elt F) (m7.view.loc (vt d i)), (m7.view.loc (vt d i) ↦[m7.view.set]{fullShare} g)) ∗ (∃ g : Buf (Elt F) (m8.view.loc (vt d i)), (m8.view.loc (vt d i) ↦[m8.view.set]{fullShare} g)) ∗ (∃ g : Buf (Elt F) (m9.view.loc (vt d i)), (m9.view.loc (vt d i) ↦[m9.view.set]{fullShare} g)) ∗ (∃ g : Buf (Elt F) (m10.view.loc (vt d i)), (m10.view.loc (vt d i) ↦[m10.view.set]{fullShare} g))
    ∗ semVal ((vt d i, SemLoc.dma r0.sem) : GSem nD τ sig) 0 ∗ semVal ((vt d i, SemLoc.dma r1.sem) : GSem nD τ sig) 0 ∗ semVal ((vt d i, SemLoc.dma r2.sem) : GSem nD τ sig) 0 ∗ semVal ((vt d i, SemLoc.dma r3.sem) : GSem nD τ sig) 0
    ∗ (∃ W' : Waits sig (HIx 1), ⌜∀ p ∈ W', p ∈ W ∨ p.2 = none⌝ ∗ owes (vt d i) O W'))

/-- The last segment's stores done: the sums and the counts are written out. -/
theorem tail (g2 : Buf (Elt F) ((rowsM i arg2).view.loc (vt d i))) (g3 : Buf (Elt F) ((idsM i arg3).view.loc (vt d i)))
    (g4 : Buf (Elt F) ((sumsM i arg4).view.loc (vt d i))) (g5 : Buf (Elt F) ((cntsM i arg5).view.loc (vt d i)))
    (f6 : Buf (Elt F) (m6.view.loc (vt d i))) (f7 : Buf (Elt F) (m7.view.loc (vt d i)))
    (hr : rowsOf d i m6 f6 = (rowsM i arg2).view.read (Elt F) g2) (hi : idsOf d i m7 f7 = (idsM i arg3).view.read (Elt F) g3)
    (O : CellTallies nD τ sig (HIx 1)) (W : Waits sig (HIx 1)) {p1 p2 p3 p4 p5 q1 q2 q3 q4 q5} :
    iprop(Transfers.MayWaits (vt d i) (none : HIx 1) O ∗ ((rowsM i arg2).view.loc (vt d i) ↦[(rowsM i arg2).view.set]{fullShare} g2) ∗ ((idsM i arg3).view.loc (vt d i) ↦[(idsM i arg3).view.set]{fullShare} g3)
        ∗ ((sumsM i arg4).view.loc (vt d i) ↦[(sumsM i arg4).view.set]{fullShare} g4) ∗ ((cntsM i arg5).view.loc (vt d i) ↦[(cntsM i arg5).view.set]{fullShare} g5) ∗ (m6.view.loc (vt d i) ↦[m6.view.set]{fullShare} f6) ∗ (m7.view.loc (vt d i) ↦[m7.view.set]{fullShare} f7)
        ∗ accI d i m8 (rowsOf d i m6 f6) (idsOf d i m7 f7) 64
        ∗ (∃ g, (m9.view.loc (vt d i) ↦[m9.view.set]{fullShare} g) ∗ ⌜m9.view.read (Elt F) g = tileCnt (idsOf d i m7 f7)⌝) ∗ (∃ g : Buf (Elt F) (m10.view.loc (vt d i)), (m10.view.loc (vt d i) ↦[m10.view.set]{fullShare} g))
        ∗ semVal ((vt d i, SemLoc.dma r0.sem) : GSem nD τ sig) 0 ∗ semVal ((vt d i, SemLoc.dma r1.sem) : GSem nD τ sig) 0 ∗ semVal ((vt d i, SemLoc.dma r2.sem) : GSem nD τ sig) 0 ∗ semVal ((vt d i, SemLoc.dma r3.sem) : GSem nD τ sig) 0
        ∗ (∃ W' : Waits sig (HIx 1), ⌜∀ p ∈ W', p ∈ W ∨ p.2 = none⌝ ∗ owes (vt d i) O W'))
      ⊢ wpT d i (.op (.enqueueDma m8 (.here (sumsM i arg4)) (.dma r2.sem) p1 p2 p3) fun _ => .op (.waitDma2 r2.sem m8 (sumsM i arg4) p4 p5) fun _ =>
          .op (.enqueueDma m9 (.here (cntsM i arg5)) (.dma r3.sem) q1 q2 q3) fun _ => .op (.waitDma2 r3.sem m9 (cntsM i arg5) q4 q5) fun _ => .ret PUnit.unit)
        (fun _ => tileOut d i arg2 arg3 arg4 arg5 m6 m7 m8 m9 m10 r0 r1 r2 r3 g2 g3 O W) := by
  unfold accI
  iintro ⟨#Hmw, H2, H3, H4, H5, H6, H7, ⟨%f8, H8, %hf8⟩, ⟨%f9, H9, %hf9⟩, H10, Hs0, Hs1, Hs2, Hs3, ⟨%W1, %hW1, HO⟩⟩
  have hf8' : m8.view.read (Elt F) f8 = tileSum (rowsOf d i m6 f6) (idsOf d i m7 f7) := funext fun y => hf8 y (y 0).isLt
  iapply (wp_copy d i (by decide) m8 (sumsM i arg4) r2 f8 g4 O W1) $$ [H4 H8 Hs2 HO]
  · isplitr; · iexact Hmw
    isplitl [H8]; · iexact H8
    isplitl [H4]; · iexact H4
    isplitl [Hs2]; · iexact Hs2
    iexact HO
  iintro H8 H4 Hs2 HO
  iapply (wp_copy d i (by decide) m9 (cntsM i arg5) r3 f9 g5 O _) $$ [H5 H9 Hs3 HO]
  · isplitr; · iexact Hmw
    isplitl [H9]; · iexact H9
    isplitl [H5]; · iexact H5
    isplitl [Hs3]; · iexact Hs3
    iexact HO
  iintro H9 H5 Hs3 HO
  iapply (wp_end d i)
  unfold tileOut
  rw [← hr, ← hi, ← hf8', ← hf9]
  isplitl [H2]; · iexact H2
  isplitl [H3]; · iexact H3
  isplitl [H4]; · iexact H4
  isplitl [H5]; · iexact H5
  isplitl [H6]; · iexists f6; iexact H6
  isplitl [H7]; · iexists f7; iexact H7
  isplitl [H8]; · iexists f8; iexact H8
  isplitl [H9]; · iexists f9; iexact H9
  isplitl [H10]; · iexact H10
  isplitl [Hs0]; · iexact Hs0
  isplitl [Hs1]; · iexact Hs1
  isplitl [Hs2]; · iexact Hs2
  isplitl [Hs3]; · iexact Hs3
  iexists _
  isplitr; rotate_left; · iexact HO
  ipureintro
  intro p hp
  rcases Finset.mem_insert.mp hp with rfl | hp; · exact Or.inr rfl
  rcases Finset.mem_insert.mp hp with rfl | hp; · exact Or.inr rfl
  exact hW1 p hp

/-- One tile's whole program. -/
theorem tile_run (g2 : Buf (Elt F) ((rowsM i arg2).view.loc (vt d i))) (g3 : Buf (Elt F) ((idsM i arg3).view.loc (vt d i)))
    (g4 : Buf (Elt F) ((sumsM i arg4).view.loc (vt d i))) (g5 : Buf (Elt F) ((cntsM i arg5).view.loc (vt d i)))
    (O : CellTallies nD τ sig (HIx 1)) (W : Waits sig (HIx 1)) :
    iprop(Transfers.MayWaits (vt d i) (none : HIx 1) O ∗ ((rowsM i arg2).view.loc (vt d i) ↦[(rowsM i arg2).view.set]{fullShare} g2) ∗ ((idsM i arg3).view.loc (vt d i) ↦[(idsM i arg3).view.set]{fullShare} g3)
        ∗ ((sumsM i arg4).view.loc (vt d i) ↦[(sumsM i arg4).view.set]{fullShare} g4) ∗ ((cntsM i arg5).view.loc (vt d i) ↦[(cntsM i arg5).view.set]{fullShare} g5)
        ∗ (∃ g : Buf (Elt F) (m6.view.loc (vt d i)), (m6.view.loc (vt d i) ↦[m6.view.set]{fullShare} g)) ∗ (∃ g : Buf (Elt F) (m7.view.loc (vt d i)), (m7.view.loc (vt d i) ↦[m7.view.set]{fullShare} g)) ∗ (∃ g : Buf (Elt F) (m8.view.loc (vt d i)), (m8.view.loc (vt d i) ↦[m8.view.set]{fullShare} g)) ∗ (∃ g : Buf (Elt F) (m9.view.loc (vt d i)), (m9.view.loc (vt d i) ↦[m9.view.set]{fullShare} g)) ∗ (∃ g : Buf (Elt F) (m10.view.loc (vt d i)), (m10.view.loc (vt d i) ↦[m10.view.set]{fullShare} g))
        ∗ semVal ((vt d i, SemLoc.dma r0.sem) : GSem nD τ sig) 0 ∗ semVal ((vt d i, SemLoc.dma r1.sem) : GSem nD τ sig) 0 ∗ semVal ((vt d i, SemLoc.dma r2.sem) : GSem nD τ sig) 0 ∗ semVal ((vt d i, SemLoc.dma r3.sem) : GSem nD τ sig) 0 ∗ owes (vt d i) O W)
      ⊢ wpT d i (cc0__sc_segment_sums (F := F) i arg2 harg2 arg3 harg3 arg4 harg4 arg5 harg5 m6 h6 m7 h7 m8 h8 m9 h9 m10 h10 r0 r1 r2 r3) (fun _ => tileOut d i arg2 arg3 arg4 arg5 m6 m7 m8 m9 m10 r0 r1 r2 r3 g2 g3 O W) := by
  rw [cc0__sc_segment_sums_eq_skeleton]; unfold cc0__sc_segment_sums_skel
  iintro ⟨#Hmw, H2, H3, H4, H5, ⟨%f6', H6⟩, ⟨%f7', H7⟩, ⟨%f8, H8⟩, ⟨%f9, H9⟩, ⟨%f10, H10⟩, Hs0, Hs1, Hs2, Hs3, HO⟩
  iapply (wp_seq d i)
  iapply (part1 d i g2 g3 f6' f7' O W) $$ [H2 H3 H6 H7 Hs0 Hs1 HO]
  · isplitr; · iexact Hmw
    isplitl [H2]; · iexact H2
    isplitl [H3]; · iexact H3
    isplitl [H6]; · iexact H6
    isplitl [H7]; · iexact H7
    isplitl [Hs0]; · iexact Hs0
    isplitl [Hs1]; · iexact Hs1
    iexact HO
  iintro %z %hz H2 H3 ⟨%f6, H6, %hf6⟩ ⟨%f7, H7, %hf7⟩ Hs0 Hs1 HO
  obtain ⟨v1, z⟩ := z
  have hz := hz (idsOf d i m7 f7)
  dsimp only at hz
  subst hz
  dsimp only
  iapply (wp_seq d i)
  iapply (part2 d i m7 f7) $$ H7
  iintro %z %hz H7
  subst hz
  dsimp only
  iapply (wp_seq d i)
  iapply (part3 d i m7 f7) $$ H7
  iintro %z %hz H7
  subst hz
  dsimp only
  iapply (wp_seq d i)
  iapply (part4 d i m7 f7) $$ H7
  iintro %z %hz H7
  subst hz
  dsimp only
  iapply (wp_seq d i)
  iapply (part5 d i m7 f7) $$ H7
  iintro %z %hz H7
  subst hz
  dsimp only
  iapply (wp_seq d i)
  iapply (part6 d i m7 f7) $$ H7
  iintro %z %hz H7
  subst hz
  dsimp only
  iapply (wp_seq d i)
  iapply (part7 d i m7 f7) $$ H7
  iintro %z %hz H7
  subst hz
  dsimp only
  iapply (wp_seq d i)
  iapply (part8 d i m7 f7) $$ H7
  iintro %z %hz H7
  subst hz
  dsimp only
  iapply (wp_seq d i)
  iapply (part9 d i m7 f7) $$ H7
  iintro %z %hz H7
  subst hz
  dsimp only
  iapply (wp_seq d i)
  iapply (part10 d i m7 f7 f6 f9 f10) $$ [H6 H7 H8 H9 H10]
  · isplitl [H7]; · iexact H7
    isplitl [H6]; · iexact H6
    isplitl [H9]; · iexact H9
    isplitl [H10]; · iexact H10
    unfold accI
    iexists f8
    isplitl [H8]; · iexact H8
    ipureintro; intro y hy; omega
  iintro %z %hz H7 H6 H9 H10 Ha
  obtain ⟨v412, v423, v425⟩ := z
  obtain ⟨hv, hq, e1⟩ := hz
  dsimp only at *
  iapply (wp_seq d i)
  iapply (part11 d i m6 m8 f6 _ hv hq e1) $$ [H6 Ha]
  · isplitl [H6]; · iexact H6
    iexact Ha
  iintro %z %hz H6 Ha
  obtain ⟨v451, v464, hw15, v469, c1⟩ := z
  obtain ⟨e3, e4⟩ := hz
  dsimp only at *
  iapply (wp_seq d i)
  iapply (part12 d i m6 m8 f6 _ hv hq e3 e4) $$ [H6 Ha]
  · isplitl [H6]; · iexact H6
    iexact Ha
  iintro %z %hz H6 Ha
  obtain ⟨v490, v497_2, v497_3⟩ := z
  obtain ⟨e6, g2', g3'⟩ := hz
  dsimp only at *
  iapply (wp_seq d i)
  iapply (part13 d i m6 m8 f6 _ hv hq e6 g2' g3') $$ [H6 Ha]
  · isplitl [H6]; · iexact H6
    iexact Ha
  iintro %z %hz H6 Ha
  obtain ⟨v516, v529, hw20, v530⟩ := z
  obtain ⟨e8, e9⟩ := hz
  dsimp only at *
  iapply (wp_seq d i)
  iapply (part14 d i m6 m8 f6 _ hv hq e8 e9) $$ [H6 Ha]
  · isplitl [H6]; · iexact H6
    iexact Ha
  iintro %z %hz H6 Ha
  obtain ⟨v555, w0, w1, w2, w3⟩ := z
  obtain ⟨e11, a0, a1, a2, a3⟩ := hz
  dsimp only at *
  iapply (wp_seq d i)
  iapply (part15 d i m6 m8 f6 _ hv hq e11 a0 a1 a2 a3) $$ [H6 Ha]
  · isplitl [H6]; · iexact H6
    iexact Ha
  iintro %z %hz H6 Ha
  have e13 := hz
  iapply (wp_seq d i)
  iapply (part16 d i m6 m8 f6 _ hv hq e13) $$ [H6 Ha]
  · isplitl [H6]; · iexact H6
    iexact Ha
  iintro %z %hz H6 Ha
  obtain ⟨v594, v607, hw26, v623, y0, y1, y2, y3, c1'⟩ := z
  obtain ⟨b0, b1, b2, b3⟩ := hz
  dsimp only at *
  iapply (wp_none d i (k0_t32_loop _) _ _ (remL_trips _ _) _)
  dsimp only
  simp only [Prog.lift, Prog.bind_op, Prog.bind_ret, Prog.pure_eq_ret]
  subst b0 b1 b2 b3
  iapply (wp_four d i m8 _ (idsOf d i m7 f7) 15 16 60 64 960 976 992 1008 (by decide)) $$ Ha; iintro Ha
  iapply (tail d i g2 g3 g4 g5 f6 f7 hf6 hf7 O W)
  isplitr; · iexact Hmw
  isplitl [H2]; · iexact H2
  isplitl [H3]; · iexact H3
  isplitl [H4]; · iexact H4
  isplitl [H5]; · iexact H5
  isplitl [H6]; · iexact H6
  isplitl [H7]; · iexact H7
  isplitl [Ha]; · iexact Ha
  isplitl [H9]; · iexact H9
  isplitl [H10]; · iexact H10
  isplitl [Hs0]; · iexact Hs0
  isplitl [Hs1]; · iexact Hs1
  isplitl [Hs2]; · iexact Hs2
  isplitl [Hs3]; · iexact Hs3
  iexists _
  isplitr; rotate_left; · iexact HO
  ipureintro
  intro p hp
  rcases Finset.mem_insert.mp hp with rfl | hp; · exact Or.inr rfl
  rcases Finset.mem_insert.mp hp with rfl | hp; · exact Or.inr rfl
  exact Or.inl hp

end Cert.Proof.I

end
-- ==== Proof.ILaunch.lean ====
/- The launch of the segment sums over thirty-two tiles: what each handshake carries, one tile's task between its
   handshakes, and the four arrays cut into the tiles' stretches. -/
module

public import proofs.«01_k».proof.Proof.ITile
public import proofs.«01_k».proof.Proof.Whole

@[expose] public section

set_option maxRecDepth 16384
set_option maxHeartbeats 400000

noncomputable section

namespace Cert.Proof.I

attribute [local irreducible] Cert.Values.accV Cert.Values.bound Cert.Values.tileSum Cert.Values.tileCnt

open Cert.KernelIdeal Cert.KernelIdeal.Gen Cert.Bisect Cert.Values

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The call runs on two SparseCores. -/
theorem nCore_zero : (K (F := F)).nCore 0 = 2 := rfl
/-- The call runs on sixteen tiles of each. -/
theorem nSub_zero : (K (F := F)).nSub 0 = 16 := rfl

/-- The arrays as a tile names them. -/
abbrev xV : Memref sig .scVector .hbm S2097152 .f32 := Memref.whole main_v0_scv
abbrev iV : Memref sig .scVector .hbm S32768 .i32 := Memref.whole main_arg5_scv
abbrev sV : Memref sig .scVector .hbm S32768 .f32 := Memref.whole main_v1_0_scv
abbrev cV : Memref sig .scVector .hbm S512 .f32 := Memref.whole main_v1_1_scv

/-- The arrays as locations of a device. -/
abbrev xLoc (d : Dev nD) : Loc nD τ sig := (SparseCore.T d).loc main_v0
abbrev iLoc (d : Dev nD) : Loc nD τ sig := (SparseCore.T d).loc main_arg5
abbrev sLoc (d : Dev nD) : Loc nD τ sig := (SparseCore.T d).loc main_v1_0
abbrev cLoc (d : Dev nD) : Loc nD τ sig := (SparseCore.T d).loc main_v1_1

/-- Coordinates of the grid from a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The tile of a core and a subcore. -/
def tid (i : grid0.Coords) : ℕ := 2 * (i 1).val + (i 0).val

/-- The parts of the arrays a tile reads and writes. -/
abbrev xSet (i : grid0.Coords) : Finset S2097152.Idx := (rowsM i xV).view.set
abbrev iSet (i : grid0.Coords) : Finset S32768.Idx := (idsM i iV).view.set
abbrev sSet (i : grid0.Coords) : Finset S32768.Idx := (sumsM i sV).view.set
abbrev cSet (i : grid0.Coords) : Finset S512.Idx := (cntsM i cV).view.set

/-- A tile's number is below 32. -/
theorem tid_lt (i : grid0.Coords) : tid i < 32 := by
  have h0 : (i 0).val < 2 := (i 0).isLt
  have h1 : (i 1).val < 16 := (i 1).isLt
  unfold tid; omega

/-- A word of the rows is in a tile's stretch exactly if its block of 65536 words has the tile's number. -/
theorem mem_xSet (i : grid0.Coords) (y : S2097152.Idx) : y ∈ xSet i ↔ (y 0).val / 65536 = tid i := by
  show y ∈ ((View.whole (main_v0_scv : Ref sig .scVector)).slice (Rect.unit (s := S2097152) (k0_off2 i) S65536.size (k0_off2_inb i))).set ↔ _
  rw [View.set_slice_whole]
  refine Rect.mem_set_unit.trans ?_
  rw [k0_off2_eq]
  have hs : S65536.size 0 = 65536 := rfl
  constructor
  · intro h; have h := h 0; unfold tid; simp only [Matrix.cons_val_zero] at h; omega
  · intro h a; obtain rfl : a = 0 := Subsingleton.elim (α := Fin 1) _ _
    unfold tid at h; simp only [Matrix.cons_val_zero]; omega

/-- An id is in a tile's stretch exactly if its block of 1024 has the tile's number. -/
theorem mem_iSet (i : grid0.Coords) (y : S32768.Idx) : y ∈ iSet i ↔ (y 0).val / 1024 = tid i := by
  show y ∈ ((View.whole (main_arg5_scv : Ref sig .scVector)).slice (Rect.unit (s := S32768) (k0_off1 i) S1024.size (k0_off1_inb i))).set ↔ _
  rw [View.set_slice_whole]
  refine Rect.mem_set_unit.trans ?_
  rw [k0_off1_eq]
  have hs : S1024.size 0 = 1024 := rfl
  constructor
  · intro h; have h := h 0; unfold tid; simp only [Matrix.cons_val_zero] at h; omega
  · intro h a; obtain rfl : a = 0 := Subsingleton.elim (α := Fin 1) _ _
    unfold tid at h; simp only [Matrix.cons_val_zero]; omega

/-- A word of the sums is in a tile's stretch exactly if its block of 1024 has the tile's number. -/
theorem mem_sSet (i : grid0.Coords) (y : S32768.Idx) : y ∈ sSet i ↔ (y 0).val / 1024 = tid i := by
  show y ∈ ((View.whole (main_v1_0_scv : Ref sig .scVector)).slice (Rect.unit (s := S32768) (k0_off35 i) S1024.size (k0_off35_inb i))).set ↔ _
  rw [View.set_slice_whole]
  refine Rect.mem_set_unit.trans ?_
  rw [k0_off35_eq]
  have hs : S1024.size 0 = 1024 := rfl
  constructor
  · intro h; have h := h 0; unfold tid; simp only [Matrix.cons_val_zero] at h; omega
  · intro h a; obtain rfl : a = 0 := Subsingleton.elim (α := Fin 1) _ _
    unfold tid at h; simp only [Matrix.cons_val_zero]; omega

/-- A word of the counts is in a tile's stretch exactly if its block of 16 has the tile's number. -/
theorem mem_cSet (i : grid0.Coords) (y : S512.Idx) : y ∈ cSet i ↔ (y 0).val / 16 = tid i := by
  show y ∈ ((View.whole (main_v1_1_scv : Ref sig .scVector)).slice (Rect.unit (s := S512) (k0_off36 i) S16.size (k0_off36_inb i))).set ↔ _
  rw [View.set_slice_whole]
  refine Rect.mem_set_unit.trans ?_
  rw [k0_off36_eq]
  have hs : S16.size 0 = 16 := rfl
  constructor
  · intro h; have h := h 0; unfold tid; simp only [Matrix.cons_val_zero] at h; omega
  · intro h a; obtain rfl : a = 0 := Subsingleton.elim (α := Fin 1) _ _
    unfold tid at h; simp only [Matrix.cons_val_zero]; omega

/-! ## What a tile reads and writes, through its stretches -/

/-- What a tile reads of the rows is its own stretch of them. -/
theorem rows_read (i : grid0.Coords) (x : S2097152.Idx → F .f32) : (rowsM i xV).view.read (Elt F) x = tileX x (tid i) := by
  funext j
  have hj : (j 0).val < 65536 := (j 0).isLt
  have ht := tid_lt i
  refine (View.read_apply _ _).trans ((cast_eq _ _).trans (congrArg x (ext1 ?_)))
  show (k0_off2 i 0) + 1 * (j 0).val = (65536 * tid i + (j 0).val) % 2097152
  rw [k0_off2_eq]; unfold tid at ht ⊢; simp only [Matrix.cons_val_zero]; omega

/-- What a tile reads of the ids is its own stretch of them. -/
theorem ids_read (i : grid0.Coords) (x : S32768.Idx → BitVec 32) : (idsM i iV).view.read (Elt F) x = tileI x (tid i) := by
  funext j
  have hj : (j 0).val < 1024 := (j 0).isLt
  have ht := tid_lt i
  refine (View.read_apply _ _).trans ((cast_eq _ _).trans (congrArg x (ext1 ?_)))
  show (k0_off1 i 0) + 1 * (j 0).val = (1024 * tid i + (j 0).val) % 32768
  rw [k0_off1_eq]; unfold tid at ht ⊢; simp only [Matrix.cons_val_zero]; omega

/-- A sums array that reads on a tile's stretch as the tile's sums is there the array of all sums. -/
theorem sums_written (i : grid0.Coords) (x : S2097152.Idx → F .f32) (ids : S32768.Idx → BitVec 32) (g : S32768.Idx → F .f32)
    (h : (sumsM i sV).view.read (Elt F) g = tileSum (tileX x (tid i)) (tileI ids (tid i))) : ∀ y ∈ sSet i, g y = SUMS x ids y := by
  intro y hy
  obtain ⟨j, -, rfl⟩ := Finset.mem_map.mp hy
  have e := congrFun h j
  have e' : (sumsM i sV).view.read (Elt F) g j = g ((sumsM i sV).view.emb j) := (View.read_apply _ _).trans (cast_eq _ _)
  refine (e'.symm.trans e).trans (SUMS_at x ids (tid i) j _ ?_).symm
  show (k0_off35 i 0) + 1 * (j 0).val = 1024 * tid i + (j 0).val
  rw [k0_off35_eq]; unfold tid; simp only [Matrix.cons_val_zero]; omega

/-- A counts array that reads on a tile's stretch as the tile's counts is there the array of all counts. -/
theorem cnts_written (i : grid0.Coords) (ids : S32768.Idx → BitVec 32) (g : S512.Idx → F .f32)
    (h : (cntsM i cV).view.read (Elt F) g = tileCnt (tileI ids (tid i))) : ∀ y ∈ cSet i, g y = CNTS ids y := by
  intro y hy
  obtain ⟨j, -, rfl⟩ := Finset.mem_map.mp hy
  have e := congrFun h j
  have e' : (cntsM i cV).view.read (Elt F) g j = g ((cntsM i cV).view.emb j) := (View.read_apply _ _).trans (cast_eq _ _)
  refine (e'.symm.trans e).trans (CNTS_at ids (tid i) j _ ?_).symm
  show (k0_off36 i 0) + 1 * (j 0).val = 16 * tid i + (j 0).val
  rw [k0_off36_eq]; unfold tid; simp only [Matrix.cons_val_zero]; omega

/-! ## The arrays, cut into the tiles' stretches -/

/-- The tile coordinates of core `c` and subcore `s`, from the launch's own indices. -/
abbrev at' (c : Fin 2) (s : Fin 16) : grid0.Coords := coordsV c s

/-- The number of the tile at a core and a subcore. -/
theorem tid_at (c : Fin 2) (s : Fin 16) : tid (at' c s) = 2 * s.val + c.val := rfl

/-- An array held whole is its thirty-two stretches held. -/
theorem cut32 {ℓ : Loc nD τ sig} (f : Buf (Elt F) ℓ) (A : grid0.Coords → Finset (Loc.ty ℓ).Idx) (t : (Loc.ty ℓ).Idx → ℕ) (ht : ∀ y, t y < 32)
    (hA : ∀ i y, y ∈ A i ↔ t y = tid i) :
    (ℓ ↦{fullShare} f : sProp 𝕄) = bigSep Finset.univ fun c : Fin 2 => bigSep Finset.univ fun s : Fin 16 => ℓ ↦[A (at' c s)]{fullShare} f := by
  have e : ∀ c : Fin 2, (bigSep Finset.univ fun s : Fin 16 => (ℓ ↦[A (at' c s)]{fullShare} f : sProp 𝕄))
      = (ℓ ↦[Finset.univ.biUnion fun s : Fin 16 => A (at' c s)]{fullShare} f) := fun c =>
    (pointsTo_biUnion Finset.univ (ℓ := ℓ) (fun s : Fin 16 => A (at' c s)) fun s _ s' _ hne => by
      refine Finset.disjoint_left.mpr fun y h1 h2 => hne (Fin.ext ?_)
      have h1 := (hA _ _).mp h1; have h2 := (hA _ _).mp h2
      rw [tid_at] at h1 h2; omega).symm
  rw [bigSep_congr fun c _ => e c, ← pointsTo_biUnion Finset.univ (ℓ := ℓ) (fun c : Fin 2 => Finset.univ.biUnion fun s : Fin 16 => A (at' c s))]
  · congr 1
    refine (Finset.eq_univ_iff_forall.mpr fun y => ?_).symm
    have := ht y
    refine Finset.mem_biUnion.mpr ⟨⟨t y % 2, by omega⟩, Finset.mem_univ _, Finset.mem_biUnion.mpr ⟨⟨t y / 2, by omega⟩, Finset.mem_univ _, (hA _ _).mpr ?_⟩⟩
    rw [tid_at]; show t y = 2 * (t y / 2) + t y % 2; omega
  · intro c _ c' _ hne
    refine Finset.disjoint_left.mpr fun y h1 h2 => hne (Fin.ext ?_)
    obtain ⟨s, -, h1⟩ := Finset.mem_biUnion.mp h1; obtain ⟨s', -, h2⟩ := Finset.mem_biUnion.mp h2
    have h1 := (hA _ _).mp h1; have h2 := (hA _ _).mp h2
    rw [tid_at] at h1 h2; omega

/-- The rows, held whole, are the thirty-two stretches held apart. -/
theorem xPts_cut (d : Dev nD) (f : Buf (Elt F) (xLoc d)) :
    (xLoc d ↦{fullShare} f : sProp 𝕄) = bigSep Finset.univ fun c : Fin 2 => bigSep Finset.univ fun s : Fin 16 => xLoc d ↦[xSet (at' c s)]{fullShare} f :=
  cut32 f xSet (fun y : S2097152.Idx => (y 0).val / 65536) (fun y => by have : (y 0).val < 2097152 := (y 0).isLt; show (y 0).val / 65536 < 32; omega) mem_xSet
/-- The ids, held whole, are the thirty-two stretches held apart. -/
theorem iPts_cut (d : Dev nD) (f : Buf (Elt F) (iLoc d)) :
    (iLoc d ↦{fullShare} f : sProp 𝕄) = bigSep Finset.univ fun c : Fin 2 => bigSep Finset.univ fun s : Fin 16 => iLoc d ↦[iSet (at' c s)]{fullShare} f :=
  cut32 f iSet (fun y : S32768.Idx => (y 0).val / 1024) (fun y => by have : (y 0).val < 32768 := (y 0).isLt; show (y 0).val / 1024 < 32; omega) mem_iSet
/-- The sums, held whole, are the thirty-two stretches held apart. -/
theorem sPts_cut (d : Dev nD) (f : Buf (Elt F) (sLoc d)) :
    (sLoc d ↦{fullShare} f : sProp 𝕄) = bigSep Finset.univ fun c : Fin 2 => bigSep Finset.univ fun s : Fin 16 => sLoc d ↦[sSet (at' c s)]{fullShare} f :=
  cut32 f sSet (fun y : S32768.Idx => (y 0).val / 1024) (fun y => by have : (y 0).val < 32768 := (y 0).isLt; show (y 0).val / 1024 < 32; omega) mem_sSet
/-- The counts, held whole, are the thirty-two stretches held apart. -/
theorem cPts_cut (d : Dev nD) (f : Buf (Elt F) (cLoc d)) :
    (cLoc d ↦{fullShare} f : sProp 𝕄) = bigSep Finset.univ fun c : Fin 2 => bigSep Finset.univ fun s : Fin 16 => cLoc d ↦[cSet (at' c s)]{fullShare} f :=
  cut32 f cSet (fun y : S512.Idx => (y 0).val / 16) (fun y => by have : (y 0).val < 512 := (y 0).isLt; show (y 0).val / 16 < 32; omega) mem_cSet

/-! ## What the handshakes carry -/

variable (m : (ℓ : Loc nD τ sig) → Buf (Elt F) ℓ) (x : (d : Dev nD) → Buf (Elt F) (xLoc d))

/-- A tile's stretches before its task, the row words at `x` and the other arrays as launched; -/
def goR (d : Dev nD) (i : grid0.Coords) : sProp 𝕄 :=
  iprop((xLoc d ↦[xSet i]{fullShare} x d) ∗ (iLoc d ↦[iSet i]{fullShare} m (iLoc d)) ∗ (sLoc d ↦[sSet i]{fullShare} m (sLoc d)) ∗ (cLoc d ↦[cSet i]{fullShare} m (cLoc d)))
/-- and after it, its sums and counts written. -/
def tdR (d : Dev nD) (i : grid0.Coords) : sProp 𝕄 :=
  iprop((xLoc d ↦[xSet i]{fullShare} x d) ∗ (iLoc d ↦[iSet i]{fullShare} m (iLoc d))
    ∗ (sLoc d ↦[sSet i]{fullShare} (SUMS (F := F) (x d) (m (iLoc d)) : Buf (Elt F) (sLoc d))) ∗ (cLoc d ↦[cSet i]{fullShare} (CNTS (F := F) (m (iLoc d)) : Buf (Elt F) (cLoc d))))

instance goR_storable (d : Dev nD) (i : grid0.Coords) : BI.Storable (upEmb : UEmb _ 𝕄) (goR m x d i) := by unfold goR; infer_instance
instance tdR_storable (d : Dev nD) (i : grid0.Coords) : BI.Storable (upEmb : UEmb _ 𝕄) (tdR m x d i) := by unfold tdR; infer_instance

/-- The launch's payloads: each core is handed its sixteen tiles' stretches and hands them back written. -/
def P : (K (F := F)).Pay (nD := nD) (Val := Elt F) (Name := ℕ) (U := UU) where
  st := fun q d c => match q with | 0 => bigSep Finset.univ fun s : Fin ((K (F := F)).nSub 0) => goR m x d (at' (Fin.cast nCore_zero c) (Fin.cast nSub_zero s))
  dn := fun q d c => match q with | 0 => bigSep Finset.univ fun s : Fin ((K (F := F)).nSub 0) => tdR m x d (at' (Fin.cast nCore_zero c) (Fin.cast nSub_zero s))
  go := fun q d c s => match q with | 0 => goR m x d (at' (Fin.cast nCore_zero c) (Fin.cast nSub_zero s))
  td := fun q d c s => match q with | 0 => tdR m x d (at' (Fin.cast nCore_zero c) (Fin.cast nSub_zero s))
  x := fun _ _ => iprop(emp)

instance P_storable : (P m x).IsStorable where
  st q d c := match q with
    | 0 => (inferInstance : BI.Storable (upEmb : UEmb _ 𝕄) (bigSep Finset.univ fun s : Fin ((K (F := F)).nSub 0) => goR m x d (at' (Fin.cast nCore_zero c) (Fin.cast nSub_zero s))))
  dn q d c := match q with
    | 0 => (inferInstance : BI.Storable (upEmb : UEmb _ 𝕄) (bigSep Finset.univ fun s : Fin ((K (F := F)).nSub 0) => tdR m x d (at' (Fin.cast nCore_zero c) (Fin.cast nSub_zero s))))
  go q d c s := match q with | 0 => goR_storable m x d _
  td q d c s := match q with | 0 => tdR_storable m x d _

/-- What a SparseCore is handed is what its tiles are handed, and what they give back is what it gives back. -/
theorem vecSplit : (K (F := F)).VecSplit' (P m x) 0 := by
  intro d c
  show (bigSep Finset.univ fun s : Fin ((K (F := F)).nSub 0) => goR m x d (at' (Fin.cast nCore_zero c) (Fin.cast nSub_zero s))) ⊢ |={Set.univ}=> iprop(
      (bigSep Finset.univ fun s : Fin ((K (F := F)).nSub 0) => goR m x d (at' (Fin.cast nCore_zero c) (Fin.cast nSub_zero s)))
      ∗ ((bigSep Finset.univ fun s : Fin ((K (F := F)).nSub 0) => tdR m x d (at' (Fin.cast nCore_zero c) (Fin.cast nSub_zero s)))
          -∗ (bigSep Finset.univ fun s : Fin ((K (F := F)).nSub 0) => tdR m x d (at' (Fin.cast nCore_zero c) (Fin.cast nSub_zero s)))))
  iintro H; imodintro
  isplitl [H]; · iexact H
  iintro H; iexact H

/-! ## One tile's task -/

section Tile

variable (d : Dev nD) (i : grid0.Coords)

/-- A tile's four semaphores. -/
abbrev cell0 : GSem nD τ sig := (vt d i, .dma cc0_scoped0.sem)
abbrev cell1 : GSem nD τ sig := (vt d i, .dma cc0_scoped1.sem)
abbrev cell2 : GSem nD τ sig := (vt d i, .dma cc0_scoped2.sem)
abbrev cell3 : GSem nD τ sig := (vt d i, .dma cc0_scoped3.sem)

/-- The rest of a tile's own semaphores. -/
def semsRest : sProp 𝕄 :=
  bigSep (((((ownCells (vt d i)).erase (cell0 d i)).erase (cell1 d i)).erase (cell2 d i)).erase (cell3 d i)) fun g => semVal g 0

/-- A tile's semaphores at zero: the four of its copies, and the rest. -/
theorem ownSems0_V : (ownSems0 (vt d i) : sProp 𝕄)
    = iprop(semVal (cell0 d i) 0 ∗ semVal (cell1 d i) 0 ∗ semVal (cell2 d i) 0 ∗ semVal (cell3 d i) 0 ∗ semsRest (F := F) d i) := by
  have n10 : cell1 d i ≠ cell0 d i := fun e => absurd (Prod.mk.inj e).2 (by decide)
  have n20 : cell2 d i ≠ cell0 d i := fun e => absurd (Prod.mk.inj e).2 (by decide)
  have n21 : cell2 d i ≠ cell1 d i := fun e => absurd (Prod.mk.inj e).2 (by decide)
  have n30 : cell3 d i ≠ cell0 d i := fun e => absurd (Prod.mk.inj e).2 (by decide)
  have n31 : cell3 d i ≠ cell1 d i := fun e => absurd (Prod.mk.inj e).2 (by decide)
  have n32 : cell3 d i ≠ cell2 d i := fun e => absurd (Prod.mk.inj e).2 (by decide)
  have o0 : cell0 d i ∈ ownCells (vt d i) := mem_ownCells.mpr ⟨rfl, by show (SemLoc.dma cc0_scoped0.sem : SemLoc sig).isScoped .scVector = true; decide⟩
  have o1 : cell1 d i ∈ ownCells (vt d i) := mem_ownCells.mpr ⟨rfl, by show (SemLoc.dma cc0_scoped1.sem : SemLoc sig).isScoped .scVector = true; decide⟩
  have o2 : cell2 d i ∈ ownCells (vt d i) := mem_ownCells.mpr ⟨rfl, by show (SemLoc.dma cc0_scoped2.sem : SemLoc sig).isScoped .scVector = true; decide⟩
  have o3 : cell3 d i ∈ ownCells (vt d i) := mem_ownCells.mpr ⟨rfl, by show (SemLoc.dma cc0_scoped3.sem : SemLoc sig).isScoped .scVector = true; decide⟩
  unfold SparseCore.Cfg.ownSems0 semsRest
  rw [SparseCore.bigSep_erase' o0, SparseCore.bigSep_erase' (Finset.mem_erase.mpr ⟨n10, o1⟩),
    SparseCore.bigSep_erase' (Finset.mem_erase.mpr ⟨n21, Finset.mem_erase.mpr ⟨n20, o2⟩⟩),
    SparseCore.bigSep_erase' (Finset.mem_erase.mpr ⟨n32, Finset.mem_erase.mpr ⟨n31, Finset.mem_erase.mpr ⟨n30, o3⟩⟩⟩)]

/-- A scratch buffer of the tile, among the device's. -/
abbrev sref (b : Ref sig .scVector) : DevRef τ sig := (Proc.scVector ((i 0).castLE hcore0) ((i 1).castLE hsub0)).devRef b

/-- The rest of a tile's own buffers. -/
def bufsRest : sProp 𝕄 :=
  bigSep ((((((ownRefs (τ := τ) (.scVector ((i 0).castLE hcore0) ((i 1).castLE hsub0))).erase (sref i cc0_scratch0)).erase (sref i cc0_scratch1)).erase
    (sref i cc0_scratch2)).erase (sref i cc0_scratch3)).erase (sref i cc0_scratch4)) fun b => iprop(∃ f, ((d, b) : Loc nD τ sig) ↦{fullShare} f)

/-- A tile's buffers: the five scratch arrays, and the rest. -/
theorem ownBufs_V : (ownBufs (vt d i) : sProp 𝕄)
    = iprop((∃ f, (vt d i).loc cc0_scratch0 ↦{fullShare} f) ∗ (∃ f, (vt d i).loc cc0_scratch1 ↦{fullShare} f) ∗ (∃ f, (vt d i).loc cc0_scratch2 ↦{fullShare} f)
        ∗ (∃ f, (vt d i).loc cc0_scratch3 ↦{fullShare} f) ∗ (∃ f, (vt d i).loc cc0_scratch4 ↦{fullShare} f) ∗ bufsRest (F := F) d i) := by
  have ne : ∀ {a b : Ref sig .scVector}, a ≠ b → sref i a ≠ sref i b := fun h e => h (Proc.devRef_injective _ e)
  have o : ∀ b : Ref sig .scVector, (sref i b).owner = Owner.proc (.scVector ((i 0).castLE hcore0) ((i 1).castLE hsub0)) → sref i b ∈ ownRefs (τ := τ) (.scVector ((i 0).castLE hcore0) ((i 1).castLE hsub0)) :=
    fun b h => SparseCore.Cfg.mem_ownRefs_of_owner (p := Proc.scVector ((i 0).castLE hcore0) ((i 1).castLE hsub0)) (b := sref i b) h
  unfold SparseCore.Cfg.ownBufs bufsRest
  refine (SparseCore.bigSep_erase' (o cc0_scratch0 rfl)).trans ?_
  rw [SparseCore.bigSep_erase' (Finset.mem_erase.mpr ⟨ne (show (cc0_scratch1 : Ref sig .scVector) ≠ cc0_scratch0 by decide), o cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), o cc0_scratch2 rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide), o cc0_scratch3 rfl⟩⟩⟩),
    SparseCore.bigSep_erase' (Finset.mem_erase.mpr ⟨ne (show (cc0_scratch4 : Ref sig .scVector) ≠ cc0_scratch3 by decide),
      Finset.mem_erase.mpr ⟨ne (show (cc0_scratch4 : Ref sig .scVector) ≠ cc0_scratch2 by decide),
      Finset.mem_erase.mpr ⟨ne (show (cc0_scratch4 : Ref sig .scVector) ≠ cc0_scratch1 by decide),
      Finset.mem_erase.mpr ⟨ne (show (cc0_scratch4 : Ref sig .scVector) ≠ cc0_scratch0 by decide), o cc0_scratch4 rfl⟩⟩⟩⟩)]

/-- A scratch buffer held through its memref is that buffer held. -/
theorem pts_whole (b : Ref sig .scVector) (f : Buf (Elt F) ((vt d i).loc b)) :
    (((Memref.whole b).view.loc (vt d i) ↦[(Memref.whole b).view.set]{fullShare} f) : sProp 𝕄) = ((vt d i).loc b ↦{fullShare} f) := by
  simp only [Memref.view_whole, View.set_whole]
/-- A whole buffer held through its view with some contents is the buffer held with some contents. -/
theorem pts_some (b : Ref sig .scVector) :
    (iprop(∃ f : Buf (Elt F) ((Memref.whole b).view.loc (vt d i)), (Memref.whole b).view.loc (vt d i) ↦[(Memref.whole b).view.set]{fullShare} f) : sProp 𝕄)
      = iprop(∃ f, (vt d i).loc b ↦{fullShare} f) :=
  congrArg _ (funext fun f => pts_whole d i b f)

/-- One tile's task, from its stretches, its scratch and its semaphores. -/
theorem tile_body (hF : (K (F := F)).Facts) (O : CellTallies nD τ sig (HIx 1)) (W : Waits sig (HIx 1)) (hO : ∀ g, O g none = 0) :
    iprop(levAts (K (F := F)).L (K (F := F)).lev ∗ emp ∗ goR m x d i ∗ scopedBufs (vt d i) ∗ scopedSems0 (vt d i) ∗ owes (vt d i) O W)
      ⊢ wp frame (wpE (defs₀ (F := F)) 𝒱₀ (vt d i) none) Set.univ
          (cc0__sc_segment_sums i xV (Memref.isWhole_whole _) iV (Memref.isWhole_whole _) sV (Memref.isWhole_whole _) cV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scoped0 cc0_scoped1 cc0_scoped2 cc0_scoped3)
          fun _ => iprop(tdR m x d i ∗ scopedBufs (vt d i) ∗ scopedSems0 (vt d i) ∗ ∃ W', ⌜∀ p ∈ W', p ∈ W ∨ p.2 = none⌝ ∗ owes (vt d i) O W') := by
  rw [(K (F := F)).scopedBufs_V hF d _ _, SparseCore.Cfg.scopedSems0_V (Val := Elt F) d _ _, ownSems0_V, ownBufs_V]
  have run := tile_run (F := F) d i (arg2 := xV) (harg2 := Memref.isWhole_whole _) (arg3 := iV) (harg3 := Memref.isWhole_whole _) (arg4 := sV) (harg4 := Memref.isWhole_whole _)
    (arg5 := cV) (harg5 := Memref.isWhole_whole _) (m6 := Memref.whole cc0_scratch0) (h6 := Memref.isWhole_whole _) (m7 := Memref.whole cc0_scratch1) (h7 := Memref.isWhole_whole _)
    (m8 := Memref.whole cc0_scratch2) (h8 := Memref.isWhole_whole _) (m9 := Memref.whole cc0_scratch3) (h9 := Memref.isWhole_whole _) (m10 := Memref.whole cc0_scratch4) (h10 := Memref.isWhole_whole _)
    (r0 := cc0_scoped0) (r1 := cc0_scoped1) (r2 := cc0_scoped2) (r3 := cc0_scoped3) (x d) (m (iLoc d)) (m (sLoc d)) (m (cLoc d)) O W
  refine BIBase.Entails.trans (Q := iprop(_ ∗ (semsRest (F := F) d i ∗ bufsRest (F := F) d i))) ?_
    ((sep_mono_left run).trans ((wp_frame_r _ _ _).trans (wp_mono _ _ _ fun _ => ?_)))
  · unfold goR
    rw [pts_some d i cc0_scratch0, pts_some d i cc0_scratch1, pts_some d i cc0_scratch2, pts_some d i cc0_scratch3, pts_some d i cc0_scratch4]
    iintro ⟨#Hlv, -, ⟨Hx, Hi, Hs, Hc⟩, ⟨H0, H1, H2, H3, H4, Hbufs⟩, ⟨S0, S1, S2, S3, Hsems⟩, HO⟩
    ihave Hmw := ((K (F := F)).mayWaits_none (thr := vt d i) hO) $$ Hlv
    isplitr [Hbufs Hsems]
    · isplitl [Hmw]; · iexact Hmw
      isplitl [Hx]; · iexact Hx
      isplitl [Hi]; · iexact Hi
      isplitl [Hs]; · iexact Hs
      isplitl [Hc]; · iexact Hc
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iexact HO
    isplitl [Hsems]; · iexact Hsems
    iexact Hbufs
  · unfold tileOut tdR
    rw [rows_read i (x d), ids_read i (m (iLoc d)),
      pts_some d i cc0_scratch0, pts_some d i cc0_scratch1, pts_some d i cc0_scratch2, pts_some d i cc0_scratch3, pts_some d i cc0_scratch4]
    iintro ⟨⟨Hx, Hi, ⟨%gs, Hs, %hs⟩, ⟨%gc, Hc, %hc⟩, H0, H1, H2, H3, H4, S0, S1, S2, S3, HO⟩, Hsems, Hbufs⟩
    ihave Hs := (Entails.of_eq (pointsTo_congr (sums_written i (x d) (m (iLoc d)) gs hs))) $$ Hs
    ihave Hc := (Entails.of_eq (pointsTo_congr (cnts_written i (m (iLoc d)) gc hc))) $$ Hc
    isplitl [Hx Hi Hs Hc]
    · isplitl [Hx]; · iexact Hx
      isplitl [Hi]; · iexact Hi
      isplitl [Hs]; · iexact Hs
      iexact Hc
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [S0 S1 S2 S3 Hsems]
    · isplitl [S0]; · iexact S0
      isplitl [S1]; · iexact S1
      isplitl [S2]; · iexact S2
      isplitl [S3]; · iexact S3
      iexact Hsems
    iexact HO

end Tile

/-- What a tile runs when it is called: the kernel's body at its core and subcore. -/
theorem defs₀_vector (c : Fin τ.nSC) (s : Fin τ.nSub) :
    defs₀ (F := F) (.scVector c s) 0 ()
      = SparseCore.onTile hcore0 hsub0 (fun c s => cc0__sc_segment_sums (coordsV c s) xV (Memref.isWhole_whole _) iV (Memref.isWhole_whole _) sV (Memref.isWhole_whole _) cV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scoped0 cc0_scoped1 cc0_scoped2 cc0_scoped3) ⟨⟩ c s := rfl

/-- Waits that carry no call are among those that a call may leave. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile's task meets what the handshakes ask of it. -/
theorem tileObl (hF : (K (F := F)).Facts) : (K (F := F)).TileObl (D (F := F)) 𝒱 (P m x) v₀ 0 := by
  intro d c i O W hO _ _
  simp only [show (P m x).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m x d (coordsV ⟨_, hc.1⟩ ⟨_, hc.2⟩) hF O W hO).trans (wp_mono frame _ _ fun _ => obl_post)

end Cert.Proof.I

end
-- ==== Proof.IRegion.lean ====
/- The second kernel, on the tensor core: its body run over its staged arrays, and its region entered from any contents of
   the arrays and left with its result's array written. -/
module

public import proofs.«01_k».proof.Proof.IBase
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit.Geometry
public import Idealize.ShloMosaic.Lib.Tactic

@[expose] public section

set_option maxRecDepth 16384
set_option maxHeartbeats 400000

noncomputable section

namespace Cert.Proof.I

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A memref's buffer on a core: its contents, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body -/

/-- The body, run: from the seven staged buffers held, the six inputs come back as they were and the result's holds what
    the body computes of them. -/
noncomputable def mlpRun (c : Dev nD) (M0 : Memref sig .tc .vmem S32x16x64 .f32) (h0 : M0.IsWhole) (M1 : Memref sig .tc .vmem S32x16 .f32) (h1 : M1.IsWhole)
    (M2 : Memref sig .tc .vmem S64x64 .f32) (h2 : M2.IsWhole) (M3 : Memref sig .tc .vmem S1x64 .f32) (h3 : M3.IsWhole) (M4 : Memref sig .tc .vmem S1x64 .f32) (h4 : M4.IsWhole)
    (M5 : Memref sig .tc .vmem S1x1 .f32) (h5 : M5.IsWhole) (M6 : Memref sig .tc .vmem S16x1 .f32) (h6 : M6.IsWhole)
    (f0 : Bf (F := F) c M0) (f1 : Bf (F := F) c M1) (f2 : Bf (F := F) c M2) (f3 : Bf (F := F) c M3) (f4 : Bf (F := F) c M4) (f5 : Bf (F := F) c M5) :
    { W : Bf (F := F) c M6 // ∀ (f6 : Bf (F := F) c M6) (E : Set ℕ) (Q : PUnit → sProp 𝕄),
        iprop(pt c M0 f0 ∗ pt c M1 f1 ∗ pt c M2 f2 ∗ pt c M3 f3 ∗ pt c M4 f4 ∗ pt c M5 f5 ∗ pt c M6 f6
            ∗ (iprop(pt c M0 f0 ∗ pt c M1 f1 ∗ pt c M2 f2 ∗ pt c M3 f3 ∗ pt c M4 f4 ∗ pt c M5 f5 ∗ pt c M6 W) -∗ Q ⟨⟩))
          ⊢ wp frame (wpE (defs₀ (F := F)) Variants.none c none) E (cc1__mlp_body M0 h0 M1 h1 M2 h2 M3 h3 M4 h4 M5 h5 M6 h6) Q } := by
  refine ⟨?_, fun f6 E Q => ?run⟩
  case run =>
    rw [cc1__mlp_body_eq_skeleton]; unfold cc1__mlp_body_skel
    iintro ⟨H0, H1, H2, H3, H4, H5, H6, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    iexact H6

/-- Equal operands, equal result. -/
theorem pay_congr {a0 b0 : Vec F S32x16x64 .f32} {a1 b1 : Vec F S32x16 .f32} {a2 b2 : Vec F S64x64 .f32} {a3 b3 a4 b4 : Vec F S1x64 .f32} {a5 b5 : Vec F S1x1 .f32}
    (e0 : a0 = b0) (e1 : a1 = b1) (e2 : a2 = b2) (e3 : a3 = b3) (e4 : a4 = b4) (e5 : a5 = b5) :
    k1_pay1 (F := F) a0 a1 a2 a3 a4 a5 = k1_pay1 b0 b1 b2 b3 b4 b5 := by
  subst e0 e1 e2 e3 e4 e5; rfl

/-- The zero offset of rank two. -/
theorem off2 : (![0, 0] : Fin 2 → ℕ) = fun _ => 0 := by decide
/-- The zero offset of rank three. -/
theorem off3 : (![0, 0, 0] : Fin 3 → ℕ) = fun _ => 0 := by decide

/-- The body's run over the pipeline's own staging buffers. -/
abbrev stRun (c : Dev nD) (f0 : Bf (F := F) c (stage1_0 0)) (f1 : Bf (F := F) c (stage1_1 0)) (f2 : Bf (F := F) c (stage1_2 0)) (f3 : Bf (F := F) c (stage1_3 0)) (f4 : Bf (F := F) c (stage1_4 0)) (f5 : Bf (F := F) c (stage1_5 0)) :=
  mlpRun (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) f0 f1 f2 f3 f4 f5

/-- What the run leaves is the body's result on the contents of the six inputs. -/
theorem stRun_val (c : Dev nD) (f0 : Bf (F := F) c (stage1_0 0)) (f1 : Bf (F := F) c (stage1_1 0)) (f2 : Bf (F := F) c (stage1_2 0)) (f3 : Bf (F := F) c (stage1_3 0)) (f4 : Bf (F := F) c (stage1_4 0)) (f5 : Bf (F := F) c (stage1_5 0)) :
    (stRun c f0 f1 f2 f3 f4 f5).1 = k1_pay1 (F := F) f0 f1 f2 f3 f4 f5 := by
  unfold stRun mlpRun
  dsimp only
  unfold mlpRun.sl.H6_1
  refine (Memref.write_access_unit_zero_univ (Elt F) cc1_stg6_0 off2 inb_S16x1_S16x1_0_0 _ _).trans ?_
  exact pay_congr (Memref.readAt_unit_zero (Elt F) cc1_stg0_0 off3 inb_S32x16x64_S32x16x64_0_0_0 f0) (Memref.readAt_unit_zero (Elt F) cc1_stg1_0 off2 inb_S32x16_S32x16_0_0 f1)
    (Memref.readAt_unit_zero (Elt F) cc1_stg2_0 off2 inb_S64x64_S64x64_0_0 f2) (Memref.readAt_unit_zero (Elt F) cc1_stg3_0 off2 inb_S1x64_S1x64_0_0 f3)
    (Memref.readAt_unit_zero (Elt F) cc1_stg4_0 off2 inb_S1x64_S1x64_0_0 f4) (Memref.readAt_unit_zero (Elt F) cc1_stg5_0 off2 inb_S1x1_S1x1_0_0 f5)

/-! ## The proof data, from any contents of the arrays -/

variable (V : (c : Dev nD) → (b : Ref sig .tc) → Buf (Elt F) ((c : Thread nD τ).loc b))

/-- Window 0's block as its fetch stages it. -/
abbrev stg0 (c : Dev nD) : (cfg1.win 0).block.Idx → Elt F (cfg1.win 0).elt := ((cfg1.win 0).blk t1_0).view.read (Elt F) (V c main_v2)
/-- Window 1's block as its fetch stages it. -/
abbrev stg1 (c : Dev nD) : (cfg1.win 1).block.Idx → Elt F (cfg1.win 1).elt := ((cfg1.win 1).blk t1_0).view.read (Elt F) (V c main_v3)
/-- Window 2's block as its fetch stages it. -/
abbrev stg2 (c : Dev nD) : (cfg1.win 2).block.Idx → Elt F (cfg1.win 2).elt := ((cfg1.win 2).blk t1_0).view.read (Elt F) (V c main_arg1)
/-- Window 3's block as its fetch stages it. -/
abbrev stg3 (c : Dev nD) : (cfg1.win 3).block.Idx → Elt F (cfg1.win 3).elt := ((cfg1.win 3).blk t1_0).view.read (Elt F) (V c main_v4)
/-- Window 4's block as its fetch stages it. -/
abbrev stg4 (c : Dev nD) : (cfg1.win 4).block.Idx → Elt F (cfg1.win 4).elt := ((cfg1.win 4).blk t1_0).view.read (Elt F) (V c main_v5)
/-- Window 5's block as its fetch stages it. -/
abbrev stg5 (c : Dev nD) : (cfg1.win 5).block.Idx → Elt F (cfg1.win 5).elt := ((cfg1.win 5).blk t1_0).view.read (Elt F) (V c main_v6)

/-- The run at the staged blocks. -/
abbrev KR (c : Dev nD) := stRun (F := F) c (stg0 V c) (stg1 V c) (stg2 V c) (stg3 V c) (stg4 V c) (stg5 V c)

/-- Between the region's ends: the buffers it does not stage, at something. -/
abbrev Φc (c : Dev nD) : sProp 𝕄 := Pipeline.scopedRest (Ix := HIx 1) (Name := ℕ) (U := UU) (Lvl := ℕ) (Val := Elt F) spec1 c

/-- The region's proof data from the contents `V`: the inputs as fetched, the result at the run's value. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => (KR V c).1
  Φ _ := Φc c
  q _ := fullShare
  owed _ := 0

/-- The pinned configuration's evidence: there is nothing to pin. -/
abbrev adm0 : (p : Fin 1) → (pcfgs (F := F) p).Adm := fun p => (cfgs p).toPCfg_adm

/-- Before its one step the head's window 0 holds its operand's block. -/
theorem before_in0 (c : Dev nD) (d : (cfg1.win 0).block.Idx → Elt F (cfg1.win 0).elt) : (dat V c).before 0 t1_0 d = stg0 V c := by
  unfold Dat.before; rw [if_pos (by decide)]; rfl
/-- Before its one step the head's window 1 holds its operand's block. -/
theorem before_in1 (c : Dev nD) (d : (cfg1.win 1).block.Idx → Elt F (cfg1.win 1).elt) : (dat V c).before 1 t1_0 d = stg1 V c := by
  unfold Dat.before; rw [if_pos (by decide)]; rfl
/-- Before its one step the head's window 2 holds its operand's block. -/
theorem before_in2 (c : Dev nD) (d : (cfg1.win 2).block.Idx → Elt F (cfg1.win 2).elt) : (dat V c).before 2 t1_0 d = stg2 V c := by
  unfold Dat.before; rw [if_pos (by decide)]; rfl
/-- Before its one step the head's window 3 holds its operand's block. -/
theorem before_in3 (c : Dev nD) (d : (cfg1.win 3).block.Idx → Elt F (cfg1.win 3).elt) : (dat V c).before 3 t1_0 d = stg3 V c := by
  unfold Dat.before; rw [if_pos (by decide)]; rfl
/-- Before its one step the head's window 4 holds its operand's block. -/
theorem before_in4 (c : Dev nD) (d : (cfg1.win 4).block.Idx → Elt F (cfg1.win 4).elt) : (dat V c).before 4 t1_0 d = stg4 V c := by
  unfold Dat.before; rw [if_pos (by decide)]; rfl
/-- Before its one step the head's window 5 holds its operand's block. -/
theorem before_in5 (c : Dev nD) (d : (cfg1.win 5).block.Idx → Elt F (cfg1.win 5).elt) : (dat V c).before 5 t1_0 d = stg5 V c := by
  unfold Dat.before; rw [if_pos (by decide)]; rfl

/-- The body's obligation: the staging buffers taken apart, the run, and its result put back. -/
theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt (none : HIx 1) t1_0.succ = (dat V c).owesAt (none : HIx 1) t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  rw [before_in0] at hf0
  rw [before_in1] at hf1
  rw [before_in2] at hf2
  rw [before_in3] at hf3
  rw [before_in4] at hf4
  rw [before_in5] at hf5
  subst hf0 hf1 hf2 hf3 hf4 hf5
  iapply ((KR V c).2 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  iexists _; isplitr; swap; (· iexact H6); ipureintro; dsimp only [dat]

/-! ## The region, over the thread's state -/

/-- The launch's proof data: its one pipeline's. -/
def pdats : (p : Fin 1) → (c : Dev nD) → Dat τ (Elt F) (HIx 1) ℕ UU ℕ (Pipeline.pin (pcfgs (F := F)) adm0 p) c
  | ⟨0, _⟩ => fun c => dat V c

/-- The result's array after the region, as the write-backs leave it. -/
def mlpOut (c : Dev nD) : Buf (Elt F) ((c : Thread nD τ).loc main_v7) := (dat V c).arrAt 6 cfg1.N

/-- It holds the body's result on the contents of the six inputs' arrays. -/
theorem mlpOut_val (c : Dev nD) : mlpOut V c = k1_pay1 (F := F) (V c main_v2) (V c main_v3) (V c main_arg1) (V c main_v4) (V c main_v5) (V c main_v6) := by
  funext y
  refine ((dat V c).arrAt_emb_eq_after_last 6 t1_0 (by decide +kernel) y).trans ?_
  show (KR V c).1 y = _
  unfold KR
  rw [stRun_val]
  refine congrFun (pay_congr ?_ ?_ ?_ ?_ ?_ ?_) y
  all_goals
    refine funext fun z => (View.read_apply _ _).trans ((cast_eq _ _).trans (congrArg _ (funext fun a => Fin.ext ?_)))
    exact Pipeline.Window.rect_emb_val_of_index_zero _ _ _ rfl _

-- the valuation the region leaves: any with the result's array at `mlpOut V` and `V` elsewhere
variable (Vp : (c : Dev nD) → (b : Ref sig .tc) → Buf (Elt F) ((c : Thread nD τ).loc b))

set_option backward.isDefEq.respectTransparency.types false in
/-- The region, entered with the unscoped buffers at `V` and left with them at `Vp`. -/
def reg (R : Dev nD → sProp 𝕄) (hVp_out : ∀ c, Vp c main_v7 = mlpOut V c)
    (hVp_ne : ∀ c (b : Ref sig .tc), b ≠ main_v7 → Vp c b = V c b) : Pipeline.RegionSeg (pcfgs (F := F)) adm0 (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, owes (c : Thread nD τ) (0 : CellTallies nD τ sig (HIx 1)) W)
  post c := iprop(unscopedBufs c (Vp c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm0 (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm0 (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v2 (by decide)).symm
        · exact ((pdats V 0 c).arrAt_in 1 rfl _).trans (hVp_ne c main_v3 (by decide)).symm
        · exact ((pdats V 0 c).arrAt_in 2 rfl _).trans (hVp_ne c main_arg1 (by decide)).symm
        · exact ((pdats V 0 c).arrAt_in 3 rfl _).trans (hVp_ne c main_v4 (by decide)).symm
        · exact ((pdats V 0 c).arrAt_in 4 rfl _).trans (hVp_ne c main_v5 (by decide)).symm
        · exact ((pdats V 0 c).arrAt_in 5 rfl _).trans (hVp_ne c main_v6 (by decide)).symm
        · exact (hVp_out c).symm)
      (fun b hb => hVp_ne c b fun h => hb (h ▸ Finset.mem_image.mpr ⟨6, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.I

end
-- ==== Proof.IMain.lean ====
/- The whole program's run: @main's host reshapes, the sparse-core call, the tensor-core region, and the state they end
   in. The result's array is stated at the second kernel's payload of the first kernel's sums and counts. -/
module

public import proofs.«01_k».proof.Proof.ILaunch
public import proofs.«01_k».proof.Proof.IRegion
public import Idealize.ShloMosaic.Lib.SparseCore.Quiescent
public import Idealize.ShloMosaic.Lib.StableHlo.Run

@[expose] public section

set_option maxRecDepth 16384
set_option maxHeartbeats 400000

noncomputable section

namespace Cert.Proof.I

attribute [local irreducible] Cert.Values.SUMS Cert.Values.CNTS

open Cert.KernelIdeal Cert.KernelIdeal.Gen Cert.Values

open Idealize.ShloMosaic
open Idealize.ShloMosaic.TcCoe
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit fund_ghost pin)

variable {F : FTy → Type} [FloatOps F]

local notation "𝕄" => MT nD τ sig (HIx 1) (Elt F) ℕ UU ℕ

/-! ## The host's operations and the valuations they leave -/

/-- A tensor-core array of @main as one of the device's. -/
abbrev dv (b : Ref sig .tc) : DevRef τ sig := Proc.devRef .tc b

/-- The location of a tensor-core array. -/
abbrev tl (d : Dev nD) (b : Ref sig .tc) : Loc nD τ sig := (SparseCore.T d).loc b

abbrev op0 : HloOp τ sig (Elt F) := StableHlo.reshape main_arg0 main_v0 (rfl : (.f32 : EltTy) = .f32) shapeCasts_S32768x64_S2097152
abbrev op2 : HloOp τ sig (Elt F) := StableHlo.reshape main_v1_0 main_v2 (rfl : (.f32 : EltTy) = .f32) shapeCasts_S32768_S32x16x64
abbrev op3 : HloOp τ sig (Elt F) := StableHlo.reshape main_v1_1 main_v3 (rfl : (.f32 : EltTy) = .f32) shapeCasts_S512_S32x16
abbrev op4 : HloOp τ sig (Elt F) := StableHlo.reshape main_arg2 main_v4 (rfl : (.f32 : EltTy) = .f32) shapeCasts_S64_S1x64
abbrev op5 : HloOp τ sig (Elt F) := StableHlo.reshape main_arg3 main_v5 (rfl : (.f32 : EltTy) = .f32) shapeCasts_S64x1_S1x64
abbrev op6 : HloOp τ sig (Elt F) := StableHlo.reshape main_arg4 main_v6 (rfl : (.f32 : EltTy) = .f32) shapeCasts_S1_S1x1

/-- The tensor core's unscoped arrays. -/
def ucRefs : Finset (DevRef τ sig) := (StableHlo.tcRefs τ sig).filter fun b => ¬ b.isScoped

omit [FloatOps F] in
/-- The unscoped buffers at a valuation are those arrays held at it. -/
theorem unscoped_held (d : Dev nD) (W : Valuation τ sig (Elt F)) :
    (unscopedBufs d (fun b => W (dv b)) : sProp 𝕄) = held (SparseCore.T d) ucRefs W := by
  unfold unscopedBufs StableHlo.held ucRefs StableHlo.tcRefs
  rw [Finset.filter_map, bigSep_map]; rfl

/-- The arrays the call does not touch. -/
def restRefs : Finset (DevRef τ sig) := (((ucRefs.erase (dv main_v0)).erase (dv main_arg5)).erase (dv main_v1_0)).erase (dv main_v1_1)

/-- An array that no scope ends is among the arrays held at launch. -/
theorem mem_uc {b : Ref sig .tc} (h : b.isScoped = false) : dv b ∈ ucRefs := by
  unfold ucRefs StableHlo.tcRefs
  exact Finset.mem_filter.2 ⟨Finset.mem_map.2 ⟨b, Finset.mem_univ _, rfl⟩, by simpa using h⟩

omit [FloatOps F] in
/-- The arrays held, the call's four apart. -/
theorem held_four (d : Dev nD) (W : Valuation τ sig (Elt F)) : (held (SparseCore.T d) ucRefs W : sProp 𝕄)
    = iprop((xLoc d ↦{fullShare} W (dv main_v0)) ∗ (iLoc d ↦{fullShare} W (dv main_arg5)) ∗ (sLoc d ↦{fullShare} W (dv main_v1_0))
        ∗ (cLoc d ↦{fullShare} W (dv main_v1_1)) ∗ held (SparseCore.T d) restRefs W) := by
  unfold StableHlo.held restRefs
  rw [SparseCore.bigSep_erase' (mem_uc (b := main_v0) rfl),
    SparseCore.bigSep_erase' (s := ucRefs.erase (dv main_v0)) (i := dv main_arg5) (Finset.mem_erase.2 ⟨by decide, mem_uc rfl⟩),
    SparseCore.bigSep_erase' (s := (ucRefs.erase (dv main_v0)).erase (dv main_arg5)) (i := dv main_v1_0)
      (Finset.mem_erase.2 ⟨by decide, Finset.mem_erase.2 ⟨by decide, mem_uc rfl⟩⟩),
    SparseCore.bigSep_erase' (s := ((ucRefs.erase (dv main_v0)).erase (dv main_arg5)).erase (dv main_v1_0)) (i := dv main_v1_1)
      (Finset.mem_erase.2 ⟨by decide, Finset.mem_erase.2 ⟨by decide, Finset.mem_erase.2 ⟨by decide, mem_uc rfl⟩⟩⟩)]

variable (m : (ℓ : Loc nD τ sig) → Buf (Elt F) ℓ) (ρ : Dev nD → PrngReg)

/-- The launch's valuation. -/
def W0 (d : Dev nD) : Valuation τ sig (Elt F) := fun b => m (d, b)
/-- After the rows are laid flat. -/
def W1 (d : Dev nD) : Valuation τ sig (Elt F) := (op0 (F := F)).result (W0 m d)
/-- The rows, flat: what the call reads. -/
def flat (d : Dev nD) : Buf (Elt F) (xLoc d) := W1 m d (dv main_v0)
/-- After the call: the sums and the counts. -/
def W2 (d : Dev nD) : Valuation τ sig (Elt F) :=
  Function.update (Function.update (W1 m d) (dv main_v1_0) (SUMS (flat m d) (m (iLoc d)))) (dv main_v1_1) (CNTS (m (iLoc d)))
def W3 (d : Dev nD) : Valuation τ sig (Elt F) := (op2 (F := F)).result (W2 m d)
def W4 (d : Dev nD) : Valuation τ sig (Elt F) := (op3 (F := F)).result (W3 m d)
def W5 (d : Dev nD) : Valuation τ sig (Elt F) := (op4 (F := F)).result (W4 m d)
def W6 (d : Dev nD) : Valuation τ sig (Elt F) := (op5 (F := F)).result (W5 m d)
def W7 (d : Dev nD) : Valuation τ sig (Elt F) := (op6 (F := F)).result (W6 m d)
/-- What the region is entered with. -/
abbrev V7 (c : Dev nD) (b : Ref sig .tc) : Buf (Elt F) ((c : Thread nD τ).loc b) := W7 m c (dv b)
/-- After the region: its result in its array. -/
def W8 (d : Dev nD) : Valuation τ sig (Elt F) := Function.update (W7 m d) (dv main_v7) (mlpOut (V7 m) d)

/-- The first reshape changes its result only. -/
theorem W1_ne (d : Dev nD) {b : Ref sig .tc} (h : b ≠ main_v0) : W1 m d (dv b) = m (d, dv b) :=
  (StableHlo.reshape_result_ne (x := main_arg0) (y := main_v0) rfl shapeCasts_S32768x64_S2097152 _ _ (W0 m d) h).trans rfl
/-- The flat rows are the first argument, reshaped. -/
theorem flat_eq (d : Dev nD) : flat m d = shapeCast S2097152 (m (tl d main_arg0)) shapeCasts_S32768x64_S2097152 := by
  show W1 m d (dv main_v0) = _
  exact (StableHlo.reshape_result main_arg0 main_v0 rfl shapeCasts_S32768x64_S2097152 _ _ (W0 m d)).trans rfl

/-- Different arrays have different places on the device. -/
theorem dv_ne {a b : Ref sig .tc} (h : a ≠ b) : dv a ≠ dv b := StableHlo.devRef_ne_of_ne h

/-- After the SparseCore's call the sums array holds all tiles' sums. -/
theorem W2_s (d : Dev nD) : W2 m d (dv main_v1_0) = SUMS (flat m d) (m (iLoc d)) :=
  (Function.update_of_ne (by decide) _ _).trans (Function.update_self _ _ _)
/-- After the SparseCore's call the counts array holds all tiles' counts. -/
theorem W2_c (d : Dev nD) : W2 m d (dv main_v1_1) = CNTS (m (iLoc d)) := Function.update_self _ _ _
/-- The SparseCore's call changes the sums and the counts only. -/
theorem W2_ne (d : Dev nD) {b : Ref sig .tc} (h : b ≠ main_v1_0) (h' : b ≠ main_v1_1) : W2 m d (dv b) = W1 m d (dv b) :=
  (Function.update_of_ne (dv_ne h') _ _).trans (Function.update_of_ne (dv_ne h) _ _)
/-- The reshape of the sums changes its result only. -/
theorem W3_ne (d : Dev nD) {b : Ref sig .tc} (h : b ≠ main_v2) : W3 m d (dv b) = W2 m d (dv b) :=
  StableHlo.reshape_result_ne (x := main_v1_0) (y := main_v2) rfl shapeCasts_S32768_S32x16x64 _ _ (W2 m d) h
/-- The reshape of the counts changes its result only. -/
theorem W4_ne (d : Dev nD) {b : Ref sig .tc} (h : b ≠ main_v3) : W4 m d (dv b) = W3 m d (dv b) :=
  StableHlo.reshape_result_ne (x := main_v1_1) (y := main_v3) rfl shapeCasts_S512_S32x16 _ _ (W3 m d) h
/-- The reshape of the first bias changes its result only. -/
theorem W5_ne (d : Dev nD) {b : Ref sig .tc} (h : b ≠ main_v4) : W5 m d (dv b) = W4 m d (dv b) :=
  StableHlo.reshape_result_ne (x := main_arg2) (y := main_v4) rfl shapeCasts_S64_S1x64 _ _ (W4 m d) h
/-- The reshape of the second weights changes its result only. -/
theorem W6_ne (d : Dev nD) {b : Ref sig .tc} (h : b ≠ main_v5) : W6 m d (dv b) = W5 m d (dv b) :=
  StableHlo.reshape_result_ne (x := main_arg3) (y := main_v5) rfl shapeCasts_S64x1_S1x64 _ _ (W5 m d) h
/-- The reshape of the second bias changes its result only. -/
theorem W7_ne (d : Dev nD) {b : Ref sig .tc} (h : b ≠ main_v6) : W7 m d (dv b) = W6 m d (dv b) :=
  StableHlo.reshape_result_ne (x := main_arg4) (y := main_v6) rfl shapeCasts_S1_S1x1 _ _ (W6 m d) h
/-- The head changes its result only. -/
theorem W8_ne (d : Dev nD) {b : Ref sig .tc} (h : b ≠ main_v7) : W8 m d (dv b) = W7 m d (dv b) := Function.update_of_ne (dv_ne h) _ _

/-- An array of @main that no operation writes holds its launch contents at the end; -/
theorem W7_arg (d : Dev nD) (b : Ref sig .tc) (h : b ∉ ({main_v0, main_v1_0, main_v1_1, main_v2, main_v3, main_v4, main_v5, main_v6} : Finset (Ref sig .tc))) :
    W7 m d (dv b) = m (d, dv b) := by
  simp only [Finset.mem_insert, Finset.mem_singleton, not_or] at h
  obtain ⟨h0, h1, h1', h2, h3, h4, h5, h6⟩ := h
  rw [W7_ne m d h6, W6_ne m d h5, W5_ne m d h4, W4_ne m d h3, W3_ne m d h2, W2_ne m d h1 h1', W1_ne m d h0]
/-- the six arguments are such. -/
theorem W8_arg (d : Dev nD) (b : Ref sig .tc) (h : b ∉ ({main_v0, main_v1_0, main_v1_1, main_v2, main_v3, main_v4, main_v5, main_v6} : Finset (Ref sig .tc)))
    (h7 : b ≠ main_v7) : W8 m d (dv b) = m (d, dv b) := (W8_ne m d h7).trans (W7_arg m d b h)

/-- The program's result on device `d`: the second kernel's payload of the tiles' sums and counts and of the weights. -/
def RES (d : Dev nD) : Buf (Elt F) (tl d main_v7) :=
  k1_pay1 (F := F) (shapeCast S32x16x64 (SUMS (shapeCast S2097152 (m (tl d main_arg0)) shapeCasts_S32768x64_S2097152) (m (iLoc d))) shapeCasts_S32768_S32x16x64)
    (shapeCast S32x16 (CNTS (m (iLoc d))) shapeCasts_S512_S32x16) (m (tl d main_arg1))
    (shapeCast S1x64 (m (tl d main_arg2)) shapeCasts_S64_S1x64) (shapeCast S1x64 (m (tl d main_arg3)) shapeCasts_S64x1_S1x64)
    (shapeCast S1x1 (m (tl d main_arg4)) shapeCasts_S1_S1x1)

/-- The head's first operand: all tiles' sums, reshaped. -/
theorem W7_v2 (d : Dev nD) : W7 m d (dv main_v2)
    = shapeCast S32x16x64 (SUMS (shapeCast S2097152 (m (tl d main_arg0)) shapeCasts_S32768x64_S2097152) (m (iLoc d))) shapeCasts_S32768_S32x16x64 := by
  rw [W7_ne m d (by decide), W6_ne m d (by decide), W5_ne m d (by decide), W4_ne m d (by decide), ← flat_eq, ← W2_s]
  exact (StableHlo.reshape_result main_v1_0 main_v2 rfl shapeCasts_S32768_S32x16x64 _ _ (W2 m d)).trans rfl
/-- The head's second operand: all tiles' counts, reshaped. -/
theorem W7_v3 (d : Dev nD) : W7 m d (dv main_v3) = shapeCast S32x16 (CNTS (m (iLoc d))) shapeCasts_S512_S32x16 := by
  rw [W7_ne m d (by decide), W6_ne m d (by decide), W5_ne m d (by decide), ← W2_c, ← W3_ne m d (b := main_v1_1) (by decide)]
  exact (StableHlo.reshape_result main_v1_1 main_v3 rfl shapeCasts_S512_S32x16 _ _ (W3 m d)).trans rfl
/-- The head's fourth operand: the first bias, reshaped. -/
theorem W7_v4 (d : Dev nD) : W7 m d (dv main_v4) = shapeCast S1x64 (m (tl d main_arg2)) shapeCasts_S64_S1x64 := by
  rw [W7_ne m d (by decide), W6_ne m d (by decide), show m (tl d main_arg2) = W4 m d (dv main_arg2) by
    rw [W4_ne m d (by decide), W3_ne m d (by decide), W2_ne m d (by decide) (by decide), W1_ne m d (by decide)]]
  exact (StableHlo.reshape_result main_arg2 main_v4 rfl shapeCasts_S64_S1x64 _ _ (W4 m d)).trans rfl
/-- The head's fifth operand: the second weights, reshaped. -/
theorem W7_v5 (d : Dev nD) : W7 m d (dv main_v5) = shapeCast S1x64 (m (tl d main_arg3)) shapeCasts_S64x1_S1x64 := by
  rw [W7_ne m d (by decide), show m (tl d main_arg3) = W5 m d (dv main_arg3) by
    rw [W5_ne m d (by decide), W4_ne m d (by decide), W3_ne m d (by decide), W2_ne m d (by decide) (by decide), W1_ne m d (by decide)]]
  exact (StableHlo.reshape_result main_arg3 main_v5 rfl shapeCasts_S64x1_S1x64 _ _ (W5 m d)).trans rfl
/-- The head's sixth operand: the second bias, reshaped. -/
theorem W7_v6 (d : Dev nD) : W7 m d (dv main_v6) = shapeCast S1x1 (m (tl d main_arg4)) shapeCasts_S1_S1x1 := by
  rw [show m (tl d main_arg4) = W6 m d (dv main_arg4) by
    rw [W6_ne m d (by decide), W5_ne m d (by decide), W4_ne m d (by decide), W3_ne m d (by decide), W2_ne m d (by decide) (by decide), W1_ne m d (by decide)]]
  exact (StableHlo.reshape_result main_arg4 main_v6 rfl shapeCasts_S1_S1x1 _ _ (W6 m d)).trans rfl

/-- At the end the result array holds the result. -/
theorem W8_res (d : Dev nD) : W8 m d (dv main_v7) = RES m d := by
  refine (Function.update_self _ _ _).trans ((mlpOut_val (V7 m) d).trans ?_)
  exact pay_congr (W7_v2 m d) (W7_v3 m d) (W7_arg m d main_arg1 (by decide)) (W7_v4 m d) (W7_v5 m d) (W7_v6 m d)

/-! ## The call -/

/-- What the call hands the sparse cores: the four arrays whole. -/
theorem st0_eq (d : Dev nD) : (bigSep Finset.univ fun c : Fin ((K (F := F)).nCore 0) => (P m (flat m)).st 0 d c)
    = iprop((xLoc d ↦{fullShare} flat m d) ∗ (iLoc d ↦{fullShare} m (iLoc d)) ∗ (sLoc d ↦{fullShare} m (sLoc d)) ∗ (cLoc d ↦{fullShare} m (cLoc d))) := by
  rw [xPts_cut, iPts_cut, sPts_cut, cPts_cut]
  show (bigSep Finset.univ fun c : Fin 2 => bigSep Finset.univ fun s : Fin 16 => goR m (flat m) d (at' c s)) = _
  simp only [goR, bigSep_sep']
/-- What they hand back: the sums and the counts in their arrays. -/
theorem dn0_eq (d : Dev nD) : (bigSep Finset.univ fun c : Fin ((K (F := F)).nCore 0) => (P m (flat m)).dn 0 d c)
    = iprop((xLoc d ↦{fullShare} flat m d) ∗ (iLoc d ↦{fullShare} m (iLoc d)) ∗ (sLoc d ↦{fullShare} SUMS (flat m d) (m (iLoc d)))
        ∗ (cLoc d ↦{fullShare} CNTS (m (iLoc d)))) := by
  rw [xPts_cut, iPts_cut, sPts_cut, cPts_cut]
  show (bigSep Finset.univ fun c : Fin 2 => bigSep Finset.univ fun s : Fin 16 => tdR m (flat m) d (at' c s)) = _
  simp only [tdR, bigSep_sep']

omit [FloatOps F] in
/-- Holding three things apart does not depend on how they are grouped. -/
theorem sep_assoc_eq' (A B C : sProp 𝕄) : iprop((A ∗ B) ∗ C) = iprop(A ∗ B ∗ C) := equiv_iff.mp ⟨BI.sep_assoc, BI.sep_assoc'⟩

omit [FloatOps F] in
/-- The untouched arrays are held alike at two valuations that agree off the call's results. -/
theorem rest_congr (d : Dev nD) (W W' : Valuation τ sig (Elt F)) (h : ∀ b ∈ restRefs, W b = W' b) :
    (held (SparseCore.T d) restRefs W : sProp 𝕄) = held (SparseCore.T d) restRefs W' :=
  bigSep_congr fun b hb => by rw [h b hb]

/-- Before the call the arrays held are what the SparseCores are handed, and the rest. -/
theorem held_W1 (d : Dev nD) : (held (SparseCore.T d) ucRefs (W1 m d) : sProp 𝕄)
    = iprop((bigSep Finset.univ fun c : Fin ((K (F := F)).nCore 0) => (P m (flat m)).st 0 d c) ∗ held (SparseCore.T d) restRefs (W1 m d)) := by
  rw [held_four, st0_eq]
  rw [W1_ne m d (b := main_arg5) (by decide), W1_ne m d (b := main_v1_0) (by decide), W1_ne m d (b := main_v1_1) (by decide)]
  simp only [sep_assoc_eq']
  rfl

/-- After the call the arrays held are what the SparseCores give back, and the rest. -/
theorem held_W2 (d : Dev nD) : (held (SparseCore.T d) ucRefs (W2 m d) : sProp 𝕄)
    = iprop((bigSep Finset.univ fun c : Fin ((K (F := F)).nCore 0) => (P m (flat m)).dn 0 d c) ∗ held (SparseCore.T d) restRefs (W1 m d)) := by
  rw [held_four, dn0_eq, W2_s, W2_c, W2_ne m d (b := main_v0) (by decide) (by decide), W2_ne m d (b := main_arg5) (by decide) (by decide), W1_ne m d (b := main_arg5) (by decide),
    rest_congr d (W2 m d) (W1 m d) fun b hb => ?_]
  · simp only [sep_assoc_eq']
    rfl
  · unfold restRefs at hb
    obtain ⟨hc, hb⟩ := Finset.mem_erase.1 hb
    exact (Function.update_of_ne hc _ _).trans (Function.update_of_ne (Finset.mem_erase.1 hb).1 _ _)

/-! ## The region -/

/-- What the region leaves. -/
abbrev V8 (c : Dev nD) (b : Ref sig .tc) : Buf (Elt F) ((c : Thread nD τ).loc b) := W8 m c (dv b)

/-- The region's segment, from the arrays after the host's reshapes. -/
abbrev seg : Pipeline.RegionSeg (pcfgs (F := F)) adm0 (pdats (V7 m)) (none : HIx 1) defs₀ 𝒱₀ (K (F := F)).L (K (F := F)).lev 0 :=
  reg (V7 m) (V8 m) (fun _ => iprop(emp)) (fun c => Function.update_self _ _ _) (fun c b hb => W8_ne m c hb)

variable [∀ e, Nonempty (Elt F e)]

/-- The launch's ghost state of the region on one device. -/
def ghost (d : Dev nD) : sProp 𝕄 :=
  iprop(cellsGhost (pin (pcfgs (F := F)) adm0) EP 0 d ∗ toksInit (pin (pcfgs (F := F)) adm0) EP 0 d)

/-- The region's call in the pipeline's own table. -/
def regionCall : Prog (TpuEff nD τ sig (Elt F) (ΛP (F := F)) .tc) PUnit := .op (.customCall (Pipeline.entry 0) ()) .ret

omit [FloatOps F] [∀ e, Nonempty (Elt F e)] in
/-- The head's call, as the whole program spells it. -/
theorem lift_regionCall : (Prog.lift (.customCall (SparseCore.inner (Pipeline.entry 0)) ()) : Prog (TpuEff nD τ sig (Elt F) (SparseCore.Sig (ΛP (F := F)) 1) .tc) PUnit)
    = SparseCore.liftProg (regionCall (F := F)) := rfl

/-- What the region leaves: the arrays held at `W8`. -/
abbrev regionPost (d : Dev nD) : sProp 𝕄 :=
  iprop(boundary (SparseCore.T d) ∗ held (SparseCore.T d) ucRefs (W8 m d) ∗ ∃ W, owes (SparseCore.T d) 0 W)

/-- The region's call, the arrays held at `W7` before. -/
theorem region_call (d : Dev nD) (W : Waits sig (HIx 1)) :
    iprop(boundary (SparseCore.T d) ∗ held (SparseCore.T d) ucRefs (W7 m d) ∗ owes (SparseCore.T d) 0 W ∗ levAts (K (F := F)).L (K (F := F)).lev ∗ ghost d)
      ⊢ wp frame (wpE (D (F := F)) 𝒱 (SparseCore.T d) none) Set.univ (regionCall (F := F)) fun _ => regionPost m d := by
  unfold regionCall
  refine BIBase.Entails.trans ?_ (Pipeline.RegionSeg.wp (pcfgs (F := F)) adm0 (pdats (V7 m)) none cellOf_inj EP defs₀ 𝒱₀ (K (F := F)).L (K (F := F)).lev
    (seg m) d none (fun _ h => nomatch h) .ret _)
  unfold ghost
  unfold regionPost
  rw [← unscoped_held, ← unscoped_held,
    show (seg m).pre d = iprop(unscopedBufs d (V7 m d) ∗ emp ∗ ∃ W, owes (SparseCore.T d) (0 : CellTallies nD τ sig (HIx 1)) W) from rfl,
    show (seg m).post d = iprop(unscopedBufs d (V8 m d) ∗ emp ∗ ∃ W, owes (SparseCore.T d) (0 : CellTallies nD τ sig (HIx 1)) W) from rfl]
  iintro ⟨Hb, Hu, HO, HL, Hg, Ht⟩
  isplitr [Hb Hu HO HL Hg Ht]
  · iintro ⟨Hb, Hu, -, HO⟩
    rw [wp_ret]; imodintro
    isplitl [Hb]; · iexact Hb
    isplitl [Hu]; · iexact Hu
    iexact HO
  isplitl [Hb]; · iexact Hb
  isplitl [Hu HO]
  · isplitl [Hu]; · iexact Hu
    isplitr; · iempintro
    iexists W; iexact HO
  isplitl [HL]; · iexact HL
  isplitl [Hg] <;> iassumption

/-- The region's call as @main makes it. -/
theorem region (d : Dev nD) (W : Waits sig (HIx 1)) :
    iprop(boundary (SparseCore.T d) ∗ held (SparseCore.T d) ucRefs (W7 m d) ∗ owes (SparseCore.T d) 0 W ∗ levAts (K (F := F)).L (K (F := F)).lev ∗ ghost d)
      ⊢ wp frame (wpE ((K (F := F)).defs (D (F := F))) 𝒱 (SparseCore.T d) none) Set.univ
          (SparseCore.liftProg (regionCall (F := F))) fun _ => regionPost m d :=
  (region_call m d W).trans ((K (F := F)).wp_liftProg (D (F := F)) 𝒱 (SparseCore.T d) Set.univ none (regionCall (F := F)) _)

/-! ## The launch's ghost state -/

/-- The handshakes' and the region's rounds at launch. -/
def u₀ : UU := (initOf (K (F := F)).hsCells (K (F := F)).hsToks,
  (initOf (Pipeline.cells (pin (pcfgs (F := F)) adm0) cellOf_inj) (Pipeline.launchToks (pin (pcfgs (F := F)) adm0) cellOf_inj), 1))

omit [FloatOps F] [∀ e, Nonempty (Elt F e)] in
/-- Nothing, held once for each member of a set, is nothing. -/
theorem bigSep_emp' {A : Type} [DecidableEq A] (s : Finset A) : (bigSep s fun _ => (iprop(emp) : sProp 𝕄)) = iprop(emp) := bigSep_emp_const s

/-- The ghost state at launch: the handshakes' part, each device's part, and nothing more for the threads. -/
theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m (flat m)).x q thr) := by
  unfold u₀
  iintro Hu
  ihave H := (ownU_pair _ _) $$ Hu
  icases H with ⟨HH, HR⟩
  ihave H := (own_pair_emb embR _ _) $$ HR
  icases H with ⟨HP, -⟩
  imod (fund_ghost (pin (pcfgs (F := F)) adm0) EP cellOf_inj) $$ HP with ⟨Hg, Ht⟩
  imodintro
  isplitl [HH]; · iexact HH
  isplitr []
  · unfold ghost
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the tensor core -/

/-- What @main leaves the claims: its arrays held at their last contents. -/
abbrev FIN (d : Dev nD) : sProp 𝕄 := held (SparseCore.T d) ucRefs (W8 m d)

/-- The arrays at launch, with their launch contents. -/
theorem launch_held (d : Dev nD) : (unscopedBufs d (fun b => m ((SparseCore.T d).loc b)) : sProp 𝕄) = held (SparseCore.T d) ucRefs (W0 m d) :=
  unscoped_held d (W0 m d)

/-- A reshape's two arrays are among those held. -/
theorem ops_sub {b b' : Ref sig .tc} (h : b.isScoped = false) (h' : b'.isScoped = false) : ({dv b, dv b'} : Finset (DevRef τ sig)) ⊆ ucRefs := by
  intro z hz
  rcases Finset.mem_insert.1 hz with rfl | hz
  · exact mem_uc h
  · rw [Finset.mem_singleton.1 hz]; exact mem_uc h'

/-- After the last call the tensor core's state holds its debt, which is none. -/
theorem tcSt_owes (d : Dev nD) : ((K (F := F)).tcSt EH d 1 : sProp 𝕄)
    ⊢ iprop((∃ W, owes (SparseCore.T d) 0 W) ∗ ((∃ W, owes (SparseCore.T d) 0 W) -∗ (K (F := F)).tcSt EH d 1)) := by
  unfold SparseCore.Cfg.tcSt
  rw [(K (F := F)).Otc_end d (n := 1) (le_refl 1)]
  iintro ⟨⟨%W, -, HO⟩, Hrest⟩
  isplitl [HO]
  · iexists W; iexact HO
  iintro ⟨%W', HO⟩
  isplitl [HO]
  · iexists W'
    isplitr
    · ipureintro
      intro p _
      rcases hp : p.2 with _ | q
      · simp
      · exact ((K (F := F)).lev_some_le _ q).trans (by show 8 * q.val + 7 ≤ 8 * 1; omega)
    iexact HO
  iexact Hrest

/-- A host operation over the arrays held, its result's valuation named. -/
theorem step {d : Dev nD} {op : HloOp τ sig (Elt F)} (hsub : op.bufs ⊆ ucRefs) {V V' : Valuation τ sig (Elt F)} (e : op.result V = V')
    (hp : (SparseCore.T d : Thread nD τ).2.kind.runsHlo = true)
    {α : Type} {k : ((b : op.writes) → b.1.ty.Contents (Elt F)) → Prog (TpuEff nD τ sig (Elt F) (SparseCore.Sig (ΛP (F := F)) 1) (SparseCore.T d : Thread nD τ).2) α} {Q : α → sProp 𝕄}
    (hf : op.fresh = ∅ := by first | rfl | decide) :
    iprop(boundary (SparseCore.T d) ∗ held (SparseCore.T d) ucRefs V)
      ⊢ iprop((iprop(boundary (SparseCore.T d) ∗ held (SparseCore.T d) ucRefs V')
            -∗ wp frame (wpE ((K (F := F)).defs (D (F := F))) 𝒱 (SparseCore.T d) none) Set.univ (k (op.fn fun b => V b.1)) Q)
          -∗ wp frame (wpE ((K (F := F)).defs (D (F := F))) 𝒱 (SparseCore.T d) none) Set.univ (hlo hp op k) Q) := by
  subst e
  exact wp_hlo_within 𝒱 (SparseCore.T d) none Set.univ hsub hf

/-- @main on device `d`'s tensor core. -/
theorem hmain (κ : GSem nD τ sig → ℕ) (d : Dev nD) :
    iprop((K (F := F)).ctx EH (P m (flat m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  unfold main
  rw [lift_regionCall]
  simp only [wp_bind, wp_pure]
  iintro ⟨#Hctx, Hst, ⟨Hb, Hheld, Hts, -⟩, HG⟩
  iapply (step (op := op0) (ops_sub (b := main_arg0) (b' := main_v0) rfl rfl) (V := W0 m d) (V' := W1 m d) rfl rfl) $$ [Hb Hheld]
  · isplitl [Hb] <;> iassumption
  iintro ⟨Hb, Hheld⟩
  rw [wp_ret]; imodintro
  ihave Hh := (Entails.of_eq (held_W1 m d)) $$ Hheld
  icases Hh with ⟨Hfour, Hrest⟩
  iapply ((K (F := F)).wp_run (D (F := F)) 𝒱 (EH := EH) (P := P m (flat m)) κ d 0) $$ [Hst Hfour Hrest Hb Hts HG]
  isplitr; · iexact Hctx
  isplitl [Hst]; · iexact Hst
  isplitl [Hfour]; · iexact Hfour
  iintro ⟨Hst, Hdn⟩
  ihave Hheld := (Entails.of_eq (held_W2 m d).symm) $$ [Hdn Hrest]
  · isplitl [Hdn] <;> iassumption
  iapply (step (op := op2) (ops_sub (b := main_v1_0) (b' := main_v2) rfl rfl) (V := W2 m d) (V' := W3 m d) rfl rfl) $$ [Hb Hheld]
  · isplitl [Hb] <;> iassumption
  iintro ⟨Hb, Hheld⟩
  rw [wp_ret]; imodintro
  iapply (step (op := op3) (ops_sub (b := main_v1_1) (b' := main_v3) rfl rfl) (V := W3 m d) (V' := W4 m d) rfl rfl) $$ [Hb Hheld]
  · isplitl [Hb] <;> iassumption
  iintro ⟨Hb, Hheld⟩
  rw [wp_ret]; imodintro
  iapply (step (op := op4) (ops_sub (b := main_arg2) (b' := main_v4) rfl rfl) (V := W4 m d) (V' := W5 m d) rfl rfl) $$ [Hb Hheld]
  · isplitl [Hb] <;> iassumption
  iintro ⟨Hb, Hheld⟩
  rw [wp_ret]; imodintro
  iapply (step (op := op5) (ops_sub (b := main_arg3) (b' := main_v5) rfl rfl) (V := W5 m d) (V' := W6 m d) rfl rfl) $$ [Hb Hheld]
  · isplitl [Hb] <;> iassumption
  iintro ⟨Hb, Hheld⟩
  rw [wp_ret]; imodintro
  iapply (step (op := op6) (ops_sub (b := main_arg4) (b' := main_v6) rfl rfl) (V := W6 m d) (V' := W7 m d) rfl rfl) $$ [Hb Hheld]
  · isplitl [Hb] <;> iassumption
  iintro ⟨Hb, Hheld⟩
  rw [wp_ret]; imodintro
  ihave Hst := (Entails.of_eq (show ((K (F := F)).tcSt EH d ((0 : Fin 1).val + 1) : sProp 𝕄) = (K (F := F)).tcSt EH d 1 from rfl)) $$ Hst
  ihave Hs := (tcSt_owes d) $$ Hst
  icases Hs with ⟨⟨%W, HO⟩, Hst⟩
  ihave HL := ((K (F := F)).ctx_levAts κ) $$ Hctx
  iapply (wp_wand_r frame _ Set.univ)
  isplitl [Hb Hheld HO HL HG]
  · iapply (region m d W)
    isplitl [Hb]; · iexact Hb
    isplitl [Hheld]; · iexact Hheld
    isplitl [HO]; · iexact HO
    isplitl [HL] <;> iassumption
  iintro %_ ⟨Hb, Hheld, HO⟩
  imodintro
  isplitl [Hst HO]
  · iapply Hst $$ HO
  isplitl [Hheld]; · iexact Hheld
  isplitl [Hb] <;> iassumption

/-- What the claims read of device `d`'s final state: its arrays' last contents. -/
def fq (d : Dev nD) (s' : Phys nD τ sig (Elt F)) : Prop := ∀ b ∈ ucRefs, s'.mem.mem (d, b) = W8 m d b

/-- The memory agrees with the contents of the arrays held. -/
theorem held_agree (d : Dev nD) (s' : Phys nD τ sig (Elt F)) (s : Finset (DevRef τ sig)) (W : Valuation τ sig (Elt F)) :
    iprop(held (SparseCore.T d) s W ∗ SI s') ⊢ (⌜∀ b ∈ s, s'.mem.mem (d, b) = W b⌝ : sProp 𝕄) := by
  classical
  induction s using Finset.induction_on with
  | empty => exact BI.pure_intro fun b hb => absurd hb (Finset.notMem_empty b)
  | insert a s ha ih =>
    unfold StableHlo.held at ih ⊢
    rw [SparseCore.bigSep_insert' ha]
    iintro ⟨⟨Ha, Hs⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%hx, HSI, -⟩
    ihave H := ih $$ [Hs HSI]
    · isplitl [Hs] <;> iassumption
    icases H with %hs
    ipureintro
    intro b hb
    rcases Finset.mem_insert.1 hb with rfl | hb
    · exact funext fun i => hx i (Finset.mem_univ i)
    · exact hs b hb

/-- So the last memory has the contents that the run ends with. -/
theorem hfin (d : Dev nD) (s' : Phys nD τ sig (Elt F)) : iprop(FIN m d ∗ SI s') ⊢ (⌜fq m d s'⌝ : sProp 𝕄) := held_agree d s' ucRefs (W8 m d)

/-- The program's run: the result's array at `RES`, the arguments at their launch contents, no semaphore raised. -/
theorem run_main : θ_run (defs (F := F)) threads ⟨m, fun _ => 0, ρ⟩ (fun r => (∀ c : Dev nD,
    r.2.mem (tl c main_v7) = RES m c ∧ ∀ b ∈ ({main_arg0, main_arg1, main_arg2, main_arg3, main_arg4, main_arg5} : Finset (Ref sig .tc)), r.2.mem (tl c b) = m (tl c b))
      ∧ r.2.sem = fun _ => 0) :=
  SparseCore.Cfg.θ_run_sc_quiescent (K := K (F := F)) (D := D (F := F)) (𝒱 := 𝒱) (EH := EH) (P := P m (flat m)) (A := ∅) facts v₀
    (fun q hq => match q with | 0 => nomatch hq) (fun q _ => match q with | 0 => tileObl m (flat m) facts)
    (fun q _ => match q with | 0 => SparseCore.Cfg.VecSplit.of_plain (vecSplit m (flat m)))
    m ρ main ghost (FIN m) (u₀ (F := F)) (sep_elim_left.trans (hu₀ m)) (hmain m ρ) (fq m) (hfin m) _
    (fun s' h hz => ⟨fun c => ⟨(h c _ (mem_uc rfl)).trans (W8_res m c), fun b hb => by
      have hs : b.isScoped = false := by revert b; decide
      exact (h c _ (mem_uc hs)).trans (W8_arg m c b (by revert b; decide) (by revert b; decide))⟩, hz⟩)

/-- The run with the result dropped: the arguments end unchanged and the machine quiet. -/
theorem run_args : θ_run (defs (F := F)) threads ⟨m, fun _ => 0, ρ⟩ (fun r => (∀ c : Dev nD,
    r.2.mem (tl c main_arg0) = m (tl c main_arg0) ∧ r.2.mem (tl c main_arg1) = m (tl c main_arg1) ∧ r.2.mem (tl c main_arg2) = m (tl c main_arg2)
      ∧ r.2.mem (tl c main_arg3) = m (tl c main_arg3) ∧ r.2.mem (tl c main_arg4) = m (tl c main_arg4) ∧ r.2.mem (tl c main_arg5) = m (tl c main_arg5))
      ∧ r.2.sem = fun _ => 0) :=
  (θ_run (defs (F := F)) _ _).mono (fun _ h => ⟨fun c => ⟨(h.1 c).2 _ (by decide), (h.1 c).2 _ (by decide), (h.1 c).2 _ (by decide),
    (h.1 c).2 _ (by decide), (h.1 c).2 _ (by decide), (h.1 c).2 _ (by decide)⟩, h.2⟩) (run_main m ρ)

end Cert.Proof.I

end
-- ==== Proof.Frames.lean ====
/- The claims that follow from the runs alone: each program's frame, and the idealization's. -/
module

public import proofs.«01_k».proof.Proof.KMain
public import proofs.«01_k».proof.Proof.IMain
public import proofs.«01_k».proof.Proof.Gen.ReferenceIdeal
public import proofs.«01_k».proof.Proof.Gen.ReferenceIdeal.Run
public import proofs.«01_k».proof.Proof.Gen.Pre_sorted_ids

@[expose] public section

noncomputable section

namespace Cert.Proof

open Idealize.ShloMosaic Idealize.SL.Sem

/-- The kernel, on bits, runs from any memory, leaves its arguments and ends quiet. -/
theorem frame_k : Cert.quiescent_Kernel (hKernel := Cert.Kernel.Gen.facts) := fun m ρ _ => K.run_args (F := Bits) m ρ

/-- So does its reading on the extended reals; -/
theorem frame_i : Cert.quiescent_KernelIdeal (hKernelIdeal := Cert.KernelIdeal.Gen.facts) := fun m ρ _ => I.run_args (F := Ideal) m ρ

/-- in particular from a memory with sorted ids. -/
theorem frame_i_sorted : Cert.quiescent_KernelIdeal_pre_sorted_ids (hKernelIdeal := Cert.KernelIdeal.Gen.facts) (hPre_sorted_ids := Cert.Pre_sorted_ids.Gen.facts) :=
  fun m ρ _ => I.run_args (F := Ideal) m ρ

/-- The reference runs from any memory and leaves its arguments; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- In particular from a memory with sorted ids. -/
theorem frame_r_sorted : Cert.quiescent_ReferenceIdeal_pre_sorted_ids (hReferenceIdeal := Cert.ReferenceIdeal.Gen.facts) (hPre_sorted_ids := Cert.Pre_sorted_ids.Gen.facts) :=
  fun m ρ _ => frame_r m ρ trivial

end Cert.Proof

end
-- ==== Proof.Sums.lean ====
/- The tiles' sums and counts over the extended reals: when the ids are sorted and each names a segment, a tile's sum of
   a segment is the sum of the tile's rows with that id, its count the number of them, and the thirty-two tiles together
   give the sums and numbers over all the rows. Nothing here names a program. -/
module

public import proofs.«01_k».proof.Proof.Whole
public import Idealize.ShloMosaic.PureOps.Ideal.Laws

@[expose] public section

noncomputable section

namespace Cert.Values

open Idealize.ShloMosaic Cert.Bisect

/-- Over the extended reals the rows added in order are the sum of the rows. -/
theorem acc_sum (x : V65536.Idx → EReal) (c a n : ℕ) (l : V16.Idx) :
    accV (F := Ideal) x c a n l = ∑ k ∈ Finset.range n, x (ixw ((a + k) * 64 + c + (l 0).val)) := by
  induction n with
  | zero =>
    rw [Finset.sum_range_zero]
    exact Ideal.ofBits_zero_f32
  | succ n ih =>
    rw [Finset.sum_range_succ, ← ih]
    rfl

/-- The ids `f` of a tile's rows are sorted, and each names a segment. -/
structure Good (f : ℕ → BitVec 32) : Prop where
  sorted : ∀ i j, i ≤ j → j < 1024 → (f i).toInt ≤ (f j).toInt
  nonneg : ∀ i, i < 1024 → 0 ≤ (f i).toInt
  small : ∀ i, i < 1024 → (f i).toInt < 16

/-- A row lies below a segment's bound exactly when its id is below the segment. -/
theorem lt_bound_iff {ids : V1024.Idx → BitVec 32} (h : Good (nth ids)) {s i : ℕ} (hs : s ≤ 16) (hi : i < 1024) :
    i < bound ids s ↔ (nth ids i).toInt < s := by
  have h0 := h.nonneg i hi
  have h1 := h.small i hi
  unfold bound
  split
  · omega
  · split
    · rw [lt_cut_iff _ h.sorted hi, toInt_small (by omega)]
    · omega

/-- A segment's rows are the rows with its id. -/
theorem seg_rows {ids : V1024.Idx → BitVec 32} (h : Good (nth ids)) {s : ℕ} (hs : s < 16) :
    Finset.Ico (bound ids s) (bound ids (s + 1)) = (Finset.range 1024).filter fun i => (nth ids i).toInt = s := by
  ext i
  rw [Finset.mem_Ico, Finset.mem_filter, Finset.mem_range]
  have hb := bound_le ids (s + 1)
  constructor
  · rintro ⟨h1, h2⟩
    have hi : i < 1024 := by omega
    have h3 := mt (lt_bound_iff h (s := s) (by omega) hi).2 (by omega)
    have h4 := (lt_bound_iff h (s := s + 1) (by omega) hi).1 h2
    push_cast at h4
    exact ⟨hi, by omega⟩
  · rintro ⟨hi, e⟩
    have h3 := mt (lt_bound_iff h (s := s) (by omega) hi).1 (by omega)
    have h4 := (lt_bound_iff h (s := s + 1) (by omega) hi).2 (by push_cast; omega)
    exact ⟨by omega, h4⟩

/-- A tile's sums: each the sum of the entries of the rows with the segment's id. -/
theorem tileSum_eq (x : V65536.Idx → EReal) {ids : V1024.Idx → BitVec 32} (h : Good (nth ids)) (y : V1024.Idx) :
    tileSum (F := Ideal) x ids y
      = ∑ i ∈ Finset.range 1024, if (nth ids i).toInt = ((y 0).val / 64 : ℕ) then x (ixw (i * 64 + (y 0).val % 64)) else 0 := by
  have hy : (y 0).val < 1024 := (y 0).isLt
  rw [← Finset.sum_filter, ← seg_rows h (by omega), Finset.sum_Ico_eq_sum_range]
  unfold tileSum segV
  rw [acc_sum]
  refine Finset.sum_congr rfl fun k _ => ?_
  congr 2
  show _ + 16 * ((y 0).val / 16 % 4) + (y 0).val % 16 = _
  omega

/-- The bound past the last segment as the counts read it. -/
theorem cntW_eq {ids : V1024.Idx → BitVec 32} (h : Good (nth ids)) {s : ℕ} (hs : s ≤ 16) :
    cntW ids s = BitVec.ofNat 32 (bound ids s) := by
  unfold cntW bound
  split
  · rfl
  · split
    · rfl
    · obtain rfl : s = 16 := by omega
      have h1 := (lt_cut_iff (16#32) h.sorted (i := 1023) (by omega)).2 (h.small 1023 (by omega))
      have h2 := cut_le (nth ids) (16#32)
      rw [show cut (nth ids) (BitVec.ofNat 32 16) = 1024 from by omega]

/-- The bounds do not go down. -/
theorem bound_mono {ids : V1024.Idx → BitVec 32} (h : Good (nth ids)) {s : ℕ} (hs : s < 16) : bound ids s ≤ bound ids (s + 1) := by
  by_contra hc
  have hb := bound_le ids s
  have hi : bound ids (s + 1) < 1024 := by omega
  have h1 := (lt_bound_iff h (s := s) (by omega) hi).1 (by omega)
  have h2 := (lt_bound_iff h (s := s + 1) (by omega) hi).2 (by push_cast; omega)
  omega

/-- A tile's counts: each the number of the rows with the segment's id. -/
theorem tileCnt_eq {ids : V1024.Idx → BitVec 32} (h : Good (nth ids)) (l : V16.Idx) :
    tileCnt (F := Ideal) ids l = ∑ i ∈ Finset.range 1024, if (nth ids i).toInt = ((l 0).val : ℕ) then (1 : EReal) else 0 := by
  have hl : (l 0).val < 16 := (l 0).isLt
  rw [← Finset.sum_filter, ← seg_rows h hl, Finset.sum_const, Nat.card_Ico, nsmul_one]
  have hm := bound_mono h hl
  have hb := bound_le ids ((l 0).val + 1)
  have e : IntOp.subi (cntW ids ((l 0).val + 1)) (cntW ids (l 0).val)
      = BitVec.ofNat 32 (bound ids ((l 0).val + 1) - bound ids (l 0).val) := by
    rw [cntW_eq h (by omega), cntW_eq h (by omega)]
    show BitVec.ofNat 32 _ - BitVec.ofNat 32 _ = _
    apply BitVec.eq_of_toNat_eq
    rw [BitVec.toNat_sub, toNat_small (by omega), toNat_small (by omega), toNat_small (by omega)]
    omega
  show (((IntOp.subi (cntW ids ((l 0).val + 1)) (cntW ids (l 0).val)).toInt : ℝ) : EReal) = _
  rw [e, toInt_small (by omega), Int.cast_natCast]
  rfl

/-! ## All the tiles -/

/-- A sum over the rows of all the tiles, tile by tile. -/
theorem sum_tiles (f : ℕ → EReal) (T : ℕ) :
    ∑ t ∈ Finset.range T, ∑ i ∈ Finset.range 1024, f (1024 * t + i) = ∑ n ∈ Finset.range (1024 * T), f n := by
  induction T with
  | zero => rfl
  | succ T ih => rw [Finset.sum_range_succ, ih, Nat.mul_succ, Finset.sum_range_add]

/-- All the ids are sorted, and each names a segment. -/
structure Sorted (ids : V32768.Idx → BitVec 32) : Prop where
  sorted : ∀ i j, i ≤ j → j < 32768 → (ids (ixi i)).toInt ≤ (ids (ixi j)).toInt
  nonneg : ∀ i, i < 32768 → 0 ≤ (ids (ixi i)).toInt
  small : ∀ i, i < 32768 → (ids (ixi i)).toInt < 16

/-- A tile's id `i` is the id of that row among all. -/
theorem nth_tile (ids : V32768.Idx → BitVec 32) (t : ℕ) {i : ℕ} (hi : i < 1024) : nth (tileI ids t) i = ids (ixi (1024 * t + i)) := by
  show ids (ixi (1024 * t + i % 1024)) = _
  rw [Nat.mod_eq_of_lt hi]

/-- So the ids of each tile are sorted, and each names a segment. -/
theorem Sorted.tile {ids : V32768.Idx → BitVec 32} (h : Sorted ids) {t : ℕ} (ht : t < 32) : Good (nth (tileI ids t)) where
  sorted i j hij hj := by rw [nth_tile _ _ (by omega), nth_tile _ _ hj]; exact h.sorted _ _ (by omega) (by omega)
  nonneg i hi := by rw [nth_tile _ _ hi]; exact h.nonneg _ (by omega)
  small i hi := by rw [nth_tile _ _ hi]; exact h.small _ (by omega)

/-- The tiles' sums of segment `s`, column `j`, added over the tiles: the sum of that column over all the rows with the
    segment's id. -/
theorem sums_total (x : V2097152.Idx → EReal) {ids : V32768.Idx → BitVec 32} (h : Sorted ids) {s j : ℕ} (hs : s < 16) (hj : j < 64) :
    ∑ t ∈ Finset.range 32, SUMS (F := Ideal) x ids (ixi (1024 * t + 64 * s + j))
      = ∑ n ∈ Finset.range 32768, if (ids (ixi n)).toInt = (s : ℕ) then x (ixx (n * 64 + j)) else 0 := by
  rw [show (32768 : ℕ) = 1024 * 32 from rfl, ← sum_tiles]
  refine Finset.sum_congr rfl fun t ht => ?_
  have ht := Finset.mem_range.1 ht
  rw [SUMS_at (F := Ideal) x ids t (ixs (64 * s + j)) _ (by
    show (1024 * t + 64 * s + j) % 32768 = 1024 * t + (64 * s + j) % 1024; omega), tileSum_eq _ (h.tile ht)]
  refine Finset.sum_congr rfl fun i hi => ?_
  have hi := Finset.mem_range.1 hi
  have e : ((ixs (64 * s + j)) 0).val = 64 * s + j := by show (64 * s + j) % 1024 = _; omega
  rw [nth_tile _ _ hi, e, show (64 * s + j) / 64 = s from by omega, show (64 * s + j) % 64 = j from by omega]
  refine if_congr Iff.rfl ?_ rfl
  show x (ixx (65536 * t + (i * 64 + j) % 65536)) = _
  congr 2
  omega

/-- The tiles' counts of segment `s` added over the tiles: the number of all the rows with the segment's id. -/
theorem cnts_total {ids : V32768.Idx → BitVec 32} (h : Sorted ids) {s : ℕ} (hs : s < 16) (y : ℕ → V512.Idx)
    (hy : ∀ t, t < 32 → (y t 0).val = 16 * t + s) :
    ∑ t ∈ Finset.range 32, CNTS (F := Ideal) ids (y t)
      = ∑ n ∈ Finset.range 32768, if (ids (ixi n)).toInt = (s : ℕ) then (1 : EReal) else 0 := by
  rw [show (32768 : ℕ) = 1024 * 32 from rfl, ← sum_tiles]
  refine Finset.sum_congr rfl fun t ht => ?_
  have ht := Finset.mem_range.1 ht
  have e : ((lane s) 0).val = s := by show s % 16 = _; omega
  rw [CNTS_at ids t (lane s) _ (by rw [hy t ht, e]), tileCnt_eq (h.tile ht), e]
  refine Finset.sum_congr rfl fun i hi => ?_
  rw [nth_tile _ _ (Finset.mem_range.1 hi)]

end Cert.Values

end
-- ==== Proof.RefSums.lean ====
/- The reference's two scattered sums over the extended reals: element `(s, j)` of the first is the sum of column `j` over
   the rows with id `s`, element `s` of the second the number of those rows. -/
module

public import proofs.«01_k».proof.Proof.Sums
public import proofs.«01_k».proof.Proof.Gen.ReferenceIdeal.Read
public import Idealize.ShloMosaic.Lib.Routing.OpsPair

@[expose] public section

noncomputable section

namespace Cert.Proof.R

open Idealize.ShloMosaic Idealize.ShloMosaic.ValueIdx Cert.ReferenceIdeal Cert.ReferenceIdeal.Gen Cert.ReferenceIdeal.Read Cert.Values

/-- Row `k`'s entry `j` lands at `(s, j)` exactly when the row's id is `s`. -/
theorem lands2 (idx : IVec S32768x1 32) (k : S32768x64.Idx) (i : S16x64.Idx) :
    scatter_S16x64_S32768x1_S32768x64_1_0_0_1.resultIdx? k idx = some i
      ↔ (idx (ix2 (k 0) (0 : Fin 1))).toInt = ((i 0).val : ℤ) ∧ k 1 = i 1 := by
  rw [Routing.resultIdx?_eq_some]
  have h0 : scatter_S16x64_S32768x1_S32768x64_1_0_0_1.start k idx 0 = (idx (ix2 (k 0) (0 : Fin 1))).toInt := by
    show BitVec.toInt (idx _) = _
    congr 2
    funext b
    match b with
    | ⟨0, _⟩ => rfl
    | ⟨1, _⟩ => rfl
  have h1 : scatter_S16x64_S32768x1_S32768x64_1_0_0_1.start k idx 1 = 0 := rfl
  have w0 : scatter_S16x64_S32768x1_S32768x64_1_0_0_1.window k 0 = 0 := rfl
  have w1 : scatter_S16x64_S32768x1_S32768x64_1_0_0_1.window k 1 = (k 1).val := rfl
  constructor
  · intro h
    have e0 := h 0
    have e1 := h 1
    rw [h0, w0] at e0
    rw [h1, w1] at e1
    exact ⟨by simpa using e0, Fin.ext (by omega)⟩
  · rintro ⟨e0, e1⟩ a
    match a with
    | ⟨0, _⟩ =>
      show scatter_S16x64_S32768x1_S32768x64_1_0_0_1.start k idx 0 + (scatter_S16x64_S32768x1_S32768x64_1_0_0_1.window k 0 : ℤ) = ((i 0).val : ℤ)
      rw [h0, w0]; simpa using e0
    | ⟨1, _⟩ =>
      show scatter_S16x64_S32768x1_S32768x64_1_0_0_1.start k idx 1 + (scatter_S16x64_S32768x1_S32768x64_1_0_0_1.window k 1 : ℤ) = ((i 1).val : ℤ)
      rw [h1, w1, e1, zero_add]

/-- A one lands at `s` exactly when its row's id is `s`. -/
theorem lands1 (idx : IVec S32768x1 32) (k : S32768.Idx) (i : S16.Idx) :
    scatter_S16_S32768x1_S32768_n_0_0_1.resultIdx? k idx = some i
      ↔ (idx (ix2 (k 0) (0 : Fin 1))).toInt = ((i 0).val : ℤ) := by
  rw [Routing.resultIdx?_eq_some]
  have h0 : scatter_S16_S32768x1_S32768_n_0_0_1.start k idx 0 = (idx (ix2 (k 0) (0 : Fin 1))).toInt := by
    show BitVec.toInt (idx _) = _
    congr 2
    funext b
    match b with
    | ⟨0, _⟩ => rfl
    | ⟨1, _⟩ => rfl
  have w0 : scatter_S16_S32768x1_S32768_n_0_0_1.window k 0 = 0 := rfl
  constructor
  · intro h
    have e0 := h 0
    rw [h0, w0] at e0
    simpa using e0
  · intro e0 a
    obtain rfl : a = 0 := Subsingleton.elim _ _
    rw [h0, w0]; simpa using e0

/-- The scattered sums. -/
theorem sums_eq (x0 : S32768x64.Idx → EReal) (x5 : S32768.Idx → BitVec 32) (s : Fin 16) (c : Fin 64) :
    val_main_v2 (F := Ideal) x0 x5 (ix2 s c)
      = ∑ n : Fin 32768, if (x5 (ix1 n)).toInt = (s.val : ℤ) then x0 (ix2 n c) else 0 := by
  show val_main_v0 (F := Ideal) (ix2 s c) + ∑ j ∈ Finset.univ.filter _, x0 j = _
  have hz : val_main_v0 (F := Ideal) (ix2 s c) = 0 := Ideal.ofBits_zero_f32
  rw [hz, zero_add, Finset.sum_filter, sum_idx2]
  refine Finset.sum_congr rfl fun n _ => ?_
  have e : ∀ b : Fin 64, (if scatter_S16x64_S32768x1_S32768x64_1_0_0_1.resultIdx? (ix2 n b) (val_main_v1 (F := Ideal) x5) = some (ix2 s c) then x0 (ix2 n b) else 0)
      = if b = c then (if (x5 (ix1 n)).toInt = (s.val : ℤ) then x0 (ix2 n c) else 0) else 0 := by
    intro b
    have hl := lands2 (val_main_v1 (F := Ideal) x5) (ix2 n b) (ix2 s c)
    rw [val_main_v1_apply] at hl
    have hx : idx_main_v1 (ix2 n (0 : Fin 1)) = ix1 n := ext1 rfl
    by_cases hb : b = c
    · subst hb
      rw [if_pos rfl]
      refine if_congr (hl.trans ?_) rfl rfl
      rw [← hx]
      exact ⟨fun h => h.1, fun h => ⟨h, rfl⟩⟩
    · rw [if_neg hb, if_neg fun h => hb (hl.1 h).2]
  rw [Finset.sum_congr rfl fun b _ => e b, Finset.sum_ite_eq' Finset.univ c (fun _ => _), if_pos (Finset.mem_univ _)]

/-- The number of rows with each id. -/
theorem cnts_eq (x5 : S32768.Idx → BitVec 32) (i : S16.Idx) :
    val_main_v6 (F := Ideal) x5 i
      = ∑ n : Fin 32768, if (x5 (ix1 n)).toInt = ((i 0).val : ℤ) then Ideal.ofBits .f32 0x3F800000#32 else 0 := by
  show val_main_v4 (F := Ideal) i + ∑ j ∈ Finset.univ.filter _, val_main_v3 (F := Ideal) j = _
  have hz : val_main_v4 (F := Ideal) i = 0 := Ideal.ofBits_zero_f32
  rw [hz, zero_add, Finset.sum_filter]
  refine Fintype.sum_equiv ⟨fun k : S32768.Idx => (k 0 : Fin 32768), ix1, fun k => ext1 rfl, fun _ => rfl⟩ _ _ fun k => ?_
  have hl := lands1 (val_main_v5 (F := Ideal) x5) k i
  rw [val_main_v5_apply] at hl
  have hx : idx_main_v5 (ix2 (k 0 : Fin 32768) (0 : Fin 1)) = ix1 (k 0 : Fin 32768) := ext1 rfl
  rw [hx] at hl
  exact if_congr hl rfl rfl

end Cert.Proof.R

end
-- ==== Proof.Head.lean ====
/- The TensorCore kernel's payload over the extended reals, read at an index: the sums and counts added over the tiles, the
   means, and the two layers of the head. -/
module

public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

namespace Cert.Proof.I

open Idealize.ShloMosaic Idealize.ShloMosaic.ValueIdx Cert.KernelIdeal Cert.KernelIdeal.Gen

/-- The float one. -/
abbrev one : EReal := Ideal.ofBits .f32 0x3F800000#32
/-- The float zero. -/
abbrev zero : EReal := Ideal.ofBits .f32 0x00000000#32

/-- The mean of segment `s`, column `q`: the sums added over the tiles, divided by the counts added over the tiles, or by
    one where that is less. -/
def mean (v0 : S32x16x64.Idx → EReal) (v3 : S32x16.Idx → EReal) (s : Fin 16) (q : Fin 64) : EReal :=
  Ideal.div (∑ t : Fin 32, v0 (ix3 t s q)) (max (∑ t : Fin 32, v3 (ix2 t s)) one)

/-- The first layer of the head. -/
def hid (v0 : S32x16x64.Idx → EReal) (v3 : S32x16.Idx → EReal) (v11 : S64x64.Idx → EReal) (v13 : S1x64.Idx → EReal) (s : Fin 16) (k : Fin 64) : EReal :=
  max ((∑ q : Fin 64, mean v0 v3 s q * v11 (ix2 q k)) + v13 (ix2 0 k)) zero

/-- The means, as the payload computes them. -/
theorem mean_apply (v0 : Vec Ideal S32x16x64 .f32) (v3 : Vec Ideal S32x16 .f32) (s : Fin 16) (q : Fin 64) :
    divf (F := Ideal) (φ := .f32) (multiReduction (F := Ideal) .add [0] S16x64 (shapeCast S32x16x64 v0 shapeCasts_S32x16x64_S32x16x64) 0x00000000#32 reduces_S32x16x64_S16x64 (.inl rfl) rfl)
      (broadcastTo S16x64 (shapeCast S16x1 (maximumf (F := Ideal) (φ := .f32) (multiReduction (F := Ideal) .add [0] S16 (shapeCast S32x16 v3 shapeCasts_S32x16_S32x16) 0x00000000#32 reduces_S32x16_S16 (.inl rfl) rfl)
        (broadcast S16 (Scalar.ofBits (F := Ideal) .f32 0x3F800000#32))) shapeCasts_S16_S16x1) broadcasts_S16x1_S16x64) (ix2 s q) = mean v0 v3 s q := by
  show Ideal.div _ _ = _
  unfold mean
  rw [shapeCast_self, shapeCast_self]
  congr 1
  · exact (Ideal.multiReduction_add_single _ _ _ _ _ _).trans (Finset.sum_congr rfl fun t _ => congrArg v0 (by
      funext a; match a with | ⟨0, _⟩ => rfl | ⟨1, _⟩ => rfl | ⟨2, _⟩ => rfl))
  · rw [broadcastTo_apply _ _ _ (ix2 s (0 : Fin 1)) (by intro a; match a with | ⟨0, _⟩ => rfl | ⟨1, _⟩ => rfl),
      shapeCast_apply _ _ _ (ix1 s) (by rw [Shape.rowMajor_val_one, Shape.rowMajor_val_two]; show s.val = s.val * 1 + 0; omega)]
    show max _ _ = _
    congr 1
    exact (Ideal.multiReduction_add_single _ _ _ _ _ _).trans (Finset.sum_congr rfl fun t _ => congrArg v3 (by
      funext a; match a with | ⟨0, _⟩ => rfl | ⟨1, _⟩ => rfl))

/-- A product of the means' shape with the first layer's weights, at an index. -/
theorem dot_apply (x : Vec Ideal S16x64 .f32) (w : Vec Ideal S64x64 .f32) (s : Fin 16) (k : Fin 64) :
    matmul (F := Ideal) (φ₁ := .f32) (φ₂ := .f32) dot_S16x64_S64x64_S16x64_1_0_0_1_n_n none x w (constant S16x64 .f32 0x00000000#32) (ix2 s k)
      = ∑ q : Fin 64, x (ix2 s q) * w (ix2 q k) := by
  refine (Ideal.matmul_constant_zero_apply _ _ _ _ _).trans ?_
  rw [← Equiv.sum_comp (contrEquiv1 dot_S16x64_S64x64_S16x64_1_0_0_1_n_n 64 rfl rfl).symm]
  refine Finset.sum_congr rfl fun q _ => ?_
  have hq := contrEquiv1_symm_val dot_S16x64_S64x64_S16x64_1_0_0_1_n_n 64 rfl rfl q
  have el : dot_S16x64_S64x64_S16x64_1_0_0_1_n_n.lhsIdx (ix2 s k) ((contrEquiv1 dot_S16x64_S64x64_S16x64_1_0_0_1_n_n 64 rfl rfl).symm q) = ix2 s q := by
    funext a; apply Fin.ext
    match a with
    | ⟨0, _⟩ => rfl
    | ⟨1, _⟩ => exact (dot_S16x64_S64x64_S16x64_1_0_0_1_n_n.lhsIdx_val_of_single rfl _ _).trans hq
  have er : dot_S16x64_S64x64_S16x64_1_0_0_1_n_n.rhsIdx (ix2 s k) ((contrEquiv1 dot_S16x64_S64x64_S16x64_1_0_0_1_n_n 64 rfl rfl).symm q) = ix2 q k := by
    funext a; apply Fin.ext
    match a with
    | ⟨0, _⟩ => exact (dot_S16x64_S64x64_S16x64_1_0_0_1_n_n.rhsIdx_val_of_single rfl _ _).trans hq
    | ⟨1, _⟩ => rfl
  rw [el, er]

/-- One row repeated over the segments, at an index. -/
theorem row_apply (v : Vec Ideal S1x64 .f32) (s : Fin 16) (k : Fin 64) :
    broadcastTo S16x64 (shapeCast S1x64 v shapeCasts_S1x64_S1x64) broadcasts_S1x64_S16x64 (ix2 s k) = v (ix2 0 k) := by
  rw [shapeCast_self]
  exact broadcastTo_apply _ _ _ (ix2 (0 : Fin 1) k) (by intro a; match a with | ⟨0, _⟩ => rfl | ⟨1, _⟩ => rfl)

/-- The payload at an index. -/
theorem pay1_apply (v0 : Vec Ideal S32x16x64 .f32) (v3 : Vec Ideal S32x16 .f32) (v11 : Vec Ideal S64x64 .f32) (v13 : Vec Ideal S1x64 .f32)
    (v19 : Vec Ideal S1x64 .f32) (v25 : Vec Ideal S1x1 .f32) (s : Fin 16) :
    k1_pay1 (F := Ideal) v0 v3 v11 v13 v19 v25 (ix2 s (0 : Fin 1))
      = (∑ k : Fin 64, hid v0 v3 v11 v13 s k * v19 (ix2 0 k)) + v25 (ix2 0 0) := by
  unfold k1_pay1
  show _ + _ = _
  congr 1
  · rw [shapeCast_apply _ _ _ (ix1 s) (by rw [Shape.rowMajor_val_one, Shape.rowMajor_val_two]; show s.val = s.val * 1 + 0; omega)]
    refine (Ideal.multiReduction_add_single _ _ _ _ _ _).trans (Finset.sum_congr rfl fun (k : Fin 64) _ => ?_)
    have ek : (Shape.Reduces.lift (reduces_S16x64_S16) (ix1 s) k) = ix2 s k := by
      funext a; match a with | ⟨0, _⟩ => rfl | ⟨1, _⟩ => rfl
    rw [ek]
    refine congrArg₂ (· * ·) (congrArg₂ max (congrArg₂ (· + ·) ((dot_apply _ _ s k).trans ?_) (row_apply v13 s k)) rfl) (row_apply v19 s k)
    exact Finset.sum_congr rfl fun q _ => congrArg (· * v11 (ix2 q k)) (mean_apply v0 v3 s q)
  · rw [shapeCast_self, broadcastTo_apply _ _ _ (ix2 (0 : Fin 1) (0 : Fin 1)) (by intro a; match a with | ⟨0, _⟩ => rfl | ⟨1, _⟩ => rfl)]

end Cert.Proof.I

end
-- ==== Proof.Algebra.lean ====
/- The two results over the extended reals are one: the tiles' sums and counts added over the tiles are the reference's
   scattered sums and counts, and from there the kernel's head and the reference's take the same steps. -/
module

public import proofs.«01_k».proof.Proof.RefSums
public import proofs.«01_k».proof.Proof.Head
public import Idealize.ShloMosaic.Lib.IdealHost

@[expose] public section

noncomputable section

namespace Cert.Proof

open Idealize.ShloMosaic Idealize.ShloMosaic.ValueIdx Cert.KernelIdeal Cert.KernelIdeal.Gen Cert.Values Cert.ReferenceIdeal.Read

/-- The tiles' sums added over the tiles are the reference's scattered sums. -/
theorem sums_part (x0 : S32768x64.Idx → EReal) {x5 : S32768.Idx → BitVec 32} (h : Sorted x5) (s : Fin 16) (q : Fin 64) :
    ∑ t : Fin 32, shapeCast S32x16x64 (SUMS (F := Ideal) (shapeCast S2097152 x0 shapeCasts_S32768x64_S2097152) x5) shapeCasts_S32768_S32x16x64 (ix3 t s q)
      = val_main_v2 (F := Ideal) x0 x5 (ix2 s q) := by
  rw [R.sums_eq]
  have hl : ∀ t : Fin 32, shapeCast S32x16x64 (SUMS (F := Ideal) (shapeCast S2097152 x0 shapeCasts_S32768x64_S2097152) x5) shapeCasts_S32768_S32x16x64 (ix3 t s q)
      = SUMS (F := Ideal) (shapeCast S2097152 x0 shapeCasts_S32768x64_S2097152) x5 (ixi (1024 * t.val + 64 * s.val + q.val)) := by
    intro t
    refine shapeCast_apply _ _ _ _ ?_
    rw [Shape.rowMajor_val_one, Shape.rowMajor_val_three]
    show (1024 * t.val + 64 * s.val + q.val) % 32768 = (t.val * 16 + s.val) * 64 + q.val
    omega
  rw [Finset.sum_congr rfl fun t _ => hl t,
    ← Finset.sum_range (fun t => SUMS (F := Ideal) (shapeCast S2097152 x0 shapeCasts_S32768x64_S2097152) x5 (ixi (1024 * t + 64 * s.val + q.val))),
    sums_total _ h s.isLt q.isLt, Finset.sum_range]
  refine Finset.sum_congr rfl fun n _ => ?_
  have e : ixi n.val = ix1 n := ext1 (Nat.mod_eq_of_lt n.isLt)
  rw [e]
  refine if_congr Iff.rfl (shapeCast_apply _ _ _ _ ?_) rfl
  rw [Shape.rowMajor_val_one, Shape.rowMajor_val_two]
  show n.val * 64 + q.val = (n.val * 64 + q.val) % 2097152
  omega

/-- The tiles' counts added over the tiles are the reference's scattered counts. -/
theorem cnts_part {x5 : S32768.Idx → BitVec 32} (h : Sorted x5) (s : Fin 16) :
    ∑ t : Fin 32, shapeCast S32x16 (CNTS (F := Ideal) x5) shapeCasts_S512_S32x16 (ix2 t s) = val_main_v6 (F := Ideal) x5 (ix1 s) := by
  rw [R.cnts_eq, Ideal.ofBits_one_f32]
  have hl : ∀ t : Fin 32, shapeCast S32x16 (CNTS (F := Ideal) x5) shapeCasts_S512_S32x16 (ix2 t s)
      = CNTS (F := Ideal) x5 (ix1 ⟨(16 * t.val + s.val) % 512, Nat.mod_lt _ (by decide)⟩) := by
    intro t
    refine shapeCast_apply _ _ _ _ ?_
    rw [Shape.rowMajor_val_one, Shape.rowMajor_val_two]
    show (16 * t.val + s.val) % 512 = t.val * 16 + s.val
    omega
  rw [Finset.sum_congr rfl fun t _ => hl t,
    ← Finset.sum_range (fun t => CNTS (F := Ideal) x5 (ix1 ⟨(16 * t + s.val) % 512, Nat.mod_lt _ (by decide)⟩)),
    cnts_total h s.isLt _ (fun t ht => by show (16 * t + s.val) % 512 = _; omega), Finset.sum_range]
  refine Finset.sum_congr rfl fun n _ => ?_
  have e : ixi n.val = ix1 n := ext1 (Nat.mod_eq_of_lt n.isLt)
  rw [e]

/-- The means agree, -/
theorem mean_eq (v0 : S32x16x64.Idx → EReal) (v3 : S32x16.Idx → EReal) (x0 : S32768x64.Idx → EReal) (x5 : S32768.Idx → BitVec 32) (s : Fin 16) (q : Fin 64)
    (h0 : ∑ t : Fin 32, v0 (ix3 t s q) = val_main_v2 (F := Ideal) x0 x5 (ix2 s q)) (h3 : ∑ t : Fin 32, v3 (ix2 t s) = val_main_v6 (F := Ideal) x5 (ix1 s)) :
    I.mean v0 v3 s q = val_main_v11 (F := Ideal) x0 x5 (ix2 s q) := by
  rw [val_main_v11_apply, val_main_v10_apply, val_main_v9_apply, val_main_v8_apply, I.mean, h0, h3]
  have e : idx_main_v9 (idx_main_v10 (ix2 s q)) = ix1 s := ext1 rfl
  rw [e]
  rfl

/-- the first layer agrees, -/
theorem hid_eq (v0 : S32x16x64.Idx → EReal) (v3 : S32x16.Idx → EReal) (v13 : S1x64.Idx → EReal) (x0 : S32768x64.Idx → EReal) (x1 : S64x64.Idx → EReal)
    (x2 : S64.Idx → EReal) (x5 : S32768.Idx → BitVec 32) (s : Fin 16) (k : Fin 64)
    (h0 : ∀ q, ∑ t : Fin 32, v0 (ix3 t s q) = val_main_v2 (F := Ideal) x0 x5 (ix2 s q)) (h3 : ∑ t : Fin 32, v3 (ix2 t s) = val_main_v6 (F := Ideal) x5 (ix1 s))
    (h13 : v13 (ix2 0 k) = x2 (ix1 k)) :
    I.hid v0 v3 x1 v13 s k = val_main_v17 (F := Ideal) x0 x1 x2 x5 (ix2 s k) := by
  rw [val_main_v17_apply, val_main_v15_apply, val_main_v12_apply, val_main_v14_apply, val_main_v13_apply, I.hid, h13]
  refine congrArg₂ max (congrArg₂ (· + ·) (Finset.sum_congr rfl fun q _ => congrArg₂ (· * ·) ?_ (congrArg x1 ?_)) (congrArg x2 (ext1 rfl))) rfl
  · rw [mean_eq v0 v3 x0 x5 s q (h0 q) h3]
    refine congrArg _ ?_
    funext a; match a with | ⟨0, _⟩ => rfl | ⟨1, _⟩ => rfl
  · funext a; match a with | ⟨0, _⟩ => rfl | ⟨1, _⟩ => rfl

/-- and so the results agree. -/
theorem res_eq (x0 : S32768x64.Idx → EReal) (x1 : S64x64.Idx → EReal) (x2 : S64.Idx → EReal) (x3 : S64x1.Idx → EReal) (x4 : S1.Idx → EReal)
    {x5 : S32768.Idx → BitVec 32} (h : Sorted x5) :
    k1_pay1 (F := Ideal) (shapeCast S32x16x64 (SUMS (F := Ideal) (shapeCast S2097152 x0 shapeCasts_S32768x64_S2097152) x5) shapeCasts_S32768_S32x16x64)
        (shapeCast S32x16 (CNTS (F := Ideal) x5) shapeCasts_S512_S32x16) x1 (shapeCast S1x64 x2 shapeCasts_S64_S1x64)
        (shapeCast S1x64 x3 shapeCasts_S64x1_S1x64) (shapeCast S1x1 x4 shapeCasts_S1_S1x1)
      = val_main_v21 (F := Ideal) x0 x1 x2 x3 x4 x5 := by
  funext i
  obtain ⟨s, rfl⟩ : ∃ s : Fin 16, i = ix2 s (0 : Fin 1) := ⟨i 0, by
    funext a
    match a with
    | ⟨0, _⟩ => rfl
    | ⟨1, _⟩ => exact Subsingleton.elim (α := Fin 1) _ _⟩
  rw [I.pay1_apply, val_main_v21_apply, val_main_v18_apply, val_main_v20_apply, val_main_v19_apply]
  refine congrArg₂ (· + ·) (Finset.sum_congr rfl fun k _ => congrArg₂ (· * ·) ?_ ?_) ?_
  · rw [hid_eq _ _ _ x0 x1 x2 x5 s k (fun q => sums_part x0 h s q) (cnts_part h s)
      (shapeCast_apply _ _ _ _ (by rw [Shape.rowMajor_val_one, Shape.rowMajor_val_two]; show k.val = 0 * 64 + k.val; omega))]
    refine congrArg _ ?_
    funext a; match a with | ⟨0, _⟩ => rfl | ⟨1, _⟩ => rfl
  · refine shapeCast_apply _ _ _ _ ?_
    rw [Shape.rowMajor_val_two, Shape.rowMajor_val_two]
    show k.val * 1 + 0 = 0 * 64 + k.val
    omega
  · refine shapeCast_apply _ _ _ _ ?_
    rw [Shape.rowMajor_val_one, Shape.rowMajor_val_two]
    rfl

end Cert.Proof

end
-- ==== Proof.PreIds.lean ====
/- What the precondition says: the ids are sorted, and each names a segment. -/
module

public import proofs.«01_k».proof.Proof.Whole
public import proofs.«01_k».proof.Proof.Sums
public import proofs.«01_k».proof.Proof.Gen.Pre_sorted_ids
public import Idealize.ShloMosaic.PureOps.Reduce
public import Idealize.ShloMosaic.PureOps.Ideal

@[expose] public section

noncomputable section

namespace Cert.Proof

open Idealize.ShloMosaic Cert.Values Cert.Pre_sorted_ids

/-- A conjunction of two bits that is one has both bits one. -/
theorem and_one : ∀ a b : BitVec 1, IntOp.andi a b = 1#1 → a = 1#1 ∧ b = 1#1 := by decide

/-- A conjunction over a list that is one has only ones. -/
theorem fold_one {ι : Type} (x : ι → BitVec 1) (L : List ι) (a : BitVec 1) (h : L.foldl (fun r i => IntOp.andi r (x i)) a = 1#1) :
    a = 1#1 ∧ ∀ i ∈ L, x i = 1#1 := by
  induction L generalizing a with
  | nil => exact ⟨h, fun i hi => by cases hi⟩
  | cons b L ih =>
    obtain ⟨h1, h2⟩ := ih _ h
    obtain ⟨h3, h4⟩ := and_one _ _ h1
    refine ⟨h3, fun i hi => ?_⟩
    rcases List.mem_cons.1 hi with rfl | hi
    · exact h4
    · exact h2 i hi

/-- So a conjunction over a whole array that is one has only ones. -/
theorem all_one {s t u : Shape} {axes : List (Fin s.rank)} (x : s.Idx → BitVec 1) (init : u.Idx → BitVec 1) (h : s.ReducesTo axes t)
    (hu : 0 < u.numel) (j : t.Idx) (hj : ∀ i, h.drop i = j) (e : Host.reduce IntOp.andi x init h hu j = 1#1) (i : s.Idx) : x i = 1#1 := by
  rw [Host.reduce_eq_foldl] at e
  refine (fold_one x _ _ e).2 i (List.mem_filter.2 ⟨List.mem_map.2 ⟨s.rowMajor i, List.mem_finRange _, Equiv.symm_apply_apply _ _⟩, ?_⟩)
  exact decide_eq_true (hj i)

/-- A signed "at least" that reads one holds of the integers. -/
theorem sge_one {a b : BitVec 32} (h : IntOp.cmpi .sge a b = 1#1) : b.toInt ≤ a.toInt := by
  have h : BitVec.ofBool (b.sle a) = 1#1 := h
  by_contra hc
  rw [show b.sle a = false from by rw [BitVec.sle_eq_decide]; exact decide_eq_false hc] at h
  exact absurd h (by decide)

/-- A signed "below" that reads one holds of the integers. -/
theorem slt_one {a b : BitVec 32} (h : IntOp.cmpi .slt a b = 1#1) : a.toInt < b.toInt := by
  have h : BitVec.ofBool (a.slt b) = 1#1 := h
  by_contra hc
  rw [show a.slt b = false from by rw [BitVec.slt_eq_decide]; exact decide_eq_false hc] at h
  exact absurd h (by decide)

/-- Under the precondition the ids are sorted, and each names a segment. -/
theorem sorted_of_pre (x0 : S32768x64.Idx → EReal) (x1 : S64x64.Idx → EReal) (x2 : S64.Idx → EReal) (x3 : S64x1.Idx → EReal) (x4 : S1.Idx → EReal)
    (x5 : S32768.Idx → BitVec 32) (h : Cert.Pre_sorted_ids.fn (F := Ideal) x0 x1 x2 x3 x4 x5 = fun _ => 1#1) : Sorted x5 := by
  have h := congrFun h (fun a => a.elim0)
  obtain ⟨h12, h3⟩ := and_one _ _ h
  obtain ⟨h1, h2⟩ := and_one _ _ h12
  have d : ∀ {n : Shape} {axes : List (Fin n.rank)} (hr : n.ReducesTo axes S_) (i : n.Idx), hr.drop i = fun a : Fin S_.rank => a.elim0 :=
    fun hr i => funext fun a => a.elim0
  have step : ∀ i, i + 1 < 32768 → (x5 (ixi i)).toInt ≤ (x5 (ixi (i + 1))).toInt := by
    intro i hi
    have e := sge_one (all_one _ _ _ _ _ (d _) h1 (fun a => match a with | ⟨0, _⟩ => ⟨i, show i < 32767 by omega⟩))
    refine le_of_le_of_eq (le_of_eq_of_le ?_ e) ?_
    · exact congrArg (fun y => (x5 y).toInt) (ext1 (by show i % 32768 = 0 + i; omega))
    · exact congrArg (fun y => (x5 y).toInt) (ext1 (by show 1 + i = (i + 1) % 32768; omega))
  refine ⟨?_, ?_, ?_⟩
  · intro i j hij hj
    induction j, hij using Nat.le_induction with
    | base => exact le_rfl
    | succ j hij ih => exact (ih (by omega)).trans (step j hj)
  · intro i hi
    exact sge_one (all_one _ _ _ _ _ (d _) h2 (ixi i))
  · intro i hi
    exact slt_one (all_one _ _ _ _ _ (d _) h3 (ixi i))

end Cert.Proof

end
-- ==== Proof.Equal.lean ====
/- The value claim: over the extended reals, from sorted ids, the kernel and the reference end with the same result. -/
module

public import proofs.«01_k».proof.Defs
public import proofs.«01_k».proof.Proof.IMain
public import proofs.«01_k».proof.Proof.Algebra
public import proofs.«01_k».proof.Proof.PreIds

@[expose] public section

noncomputable section

namespace Cert.Proof

open Idealize.ShloMosaic Idealize.SL.Sem

/-- From the same arguments, the ids sorted and each naming a segment, the kernel and the reference end with equal
    results, their arguments unchanged. -/
theorem algebraic : Cert.algebraic_KernelIdeal_ReferenceIdeal_pre_sorted_ids (hKernelIdeal := Cert.KernelIdeal.Gen.facts)
    (hReferenceIdeal := Cert.ReferenceIdeal.Gen.facts) (hPre_sorted_ids := Cert.Pre_sorted_ids.Gen.facts) := by
  intro m g m' g' hpre hargs
  refine ⟨fun c => I.RES (F := Ideal) m c, ?_, ?_⟩
  · refine (θ_run _ _ _).mono (fun r h c => ?_) (I.run_main (F := Ideal) m g)
    obtain ⟨h1, h2⟩ := h.1 c
    exact ⟨h1, h2 _ (by decide), h2 _ (by decide), h2 _ (by decide), h2 _ (by decide), h2 _ (by decide), h2 _ (by decide)⟩
  · refine (θ_run _ _ _).mono (fun r h c => ⟨(h c).1.trans ?_, (h c).2⟩) (Cert.ReferenceIdeal.Value.run (F := Ideal) m' g')
    obtain ⟨e0, e1, e2, e3, e4, e5⟩ := hargs c
    refine (Cert.ReferenceIdeal.Read.val_main_v21_eq (F := Ideal) _ _ _ _ _ _).trans ?_
    rw [e0, e1, e2, e3, e4, e5]
    exact (res_eq _ _ _ _ _ (sorted_of_pre _ _ _ _ _ _ (hpre c))).symm

end Cert.Proof

end
-- ==== Proof.lean ====
/- The certificate: the frames of the kernel, of its reading on the extended reals and of the reference, and the equality of the
   kernel's and the reference's results over the extended reals. -/
module

public import proofs.«01_k».proof.Defs
public import proofs.«01_k».proof.Proof.Frames
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sorted_ids
public import Idealize.ShloMosaic.Adequacy
public import Idealize.ShloMosaic.Init

@[expose] public section

noncomputable section

namespace Cert.Proof

open Idealize.ShloMosaic Idealize.SL.Sem Cert.Kernel

/-- The claims: the frames from the programs' runs, the idealization without rewrites, and the equal results. -/
theorem claim : Cert.Claim := ⟨Cert.Kernel.Gen.facts, Cert.KernelIdeal.Gen.facts, Cert.ReferenceIdeal.Gen.facts,
  Cert.Pre_sorted_ids.Gen.facts, frame_k, frame_i, frame_i_sorted, frame_r, frame_r_sorted, trivial, algebraic⟩

end Cert.Proof

end
